-- ==== Defs.lean ====
def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_RefUpIdeal (m : (ℓ : Loc Cert.RefUpIdeal.nD Cert.RefUpIdeal.τ Cert.RefUpIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_RefDownIdeal (m : (ℓ : Loc Cert.RefDownIdeal.nD Cert.RefDownIdeal.τ Cert.RefDownIdeal.sig) → Buf (Elt Ideal) ℓ) : Prop :=
  True

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_RefUpIdeal [hRefUpIdeal : Cert.RefUpIdeal.Facts] : Prop :=
  ∀ (m : (ℓ : Loc Cert.RefUpIdeal.nD Cert.RefUpIdeal.τ Cert.RefUpIdeal.sig) → Buf (Elt Ideal) ℓ) (g : Dev Cert.RefUpIdeal.nD → PrngReg), Pre_RefUpIdeal m →
    θ_run (Cert.RefUpIdeal.defs (F := Ideal)) (onTc (τ := Cert.RefUpIdeal.τ) (Cert.RefUpIdeal.main (F := Ideal))) ⟨m, fun _ => 0, g⟩ (fun r => (∀ c : Dev Cert.RefUpIdeal.nD,
      r.2.mem ((c.tc : Thread Cert.RefUpIdeal.nD Cert.RefUpIdeal.τ).loc Cert.RefUpIdeal.main_arg0) = m ((c.tc : Thread Cert.RefUpIdeal.nD Cert.RefUpIdeal.τ).loc Cert.RefUpIdeal.main_arg0)
      ∧ r.2.mem ((c.tc : Thread Cert.RefUpIdeal.nD Cert.RefUpIdeal.τ).loc Cert.RefUpIdeal.main_arg1) = m ((c.tc : Thread Cert.RefUpIdeal.nD Cert.RefUpIdeal.τ).loc Cert.RefUpIdeal.main_arg1)
      ∧ r.2.mem ((c.tc : Thread Cert.RefUpIdeal.nD Cert.RefUpIdeal.τ).loc Cert.RefUpIdeal.main_arg2) = m ((c.tc : Thread Cert.RefUpIdeal.nD Cert.RefUpIdeal.τ).loc Cert.RefUpIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_RefDownIdeal [hRefDownIdeal : Cert.RefDownIdeal.Facts] : Prop :=
  ∀ (m : (ℓ : Loc Cert.RefDownIdeal.nD Cert.RefDownIdeal.τ Cert.RefDownIdeal.sig) → Buf (Elt Ideal) ℓ) (g : Dev Cert.RefDownIdeal.nD → PrngReg), Pre_RefDownIdeal m →
    θ_run (Cert.RefDownIdeal.defs (F := Ideal)) (onTc (τ := Cert.RefDownIdeal.τ) (Cert.RefDownIdeal.main (F := Ideal))) ⟨m, fun _ => 0, g⟩ (fun r => (∀ c : Dev Cert.RefDownIdeal.nD,
      r.2.mem ((c.tc : Thread Cert.RefDownIdeal.nD Cert.RefDownIdeal.τ).loc Cert.RefDownIdeal.main_arg0) = m ((c.tc : Thread Cert.RefDownIdeal.nD Cert.RefDownIdeal.τ).loc Cert.RefDownIdeal.main_arg0)
      ∧ r.2.mem ((c.tc : Thread Cert.RefDownIdeal.nD Cert.RefDownIdeal.τ).loc Cert.RefDownIdeal.main_arg1) = m ((c.tc : Thread Cert.RefDownIdeal.nD Cert.RefDownIdeal.τ).loc Cert.RefDownIdeal.main_arg1)
      ∧ r.2.mem ((c.tc : Thread Cert.RefDownIdeal.nD Cert.RefDownIdeal.τ).loc Cert.RefDownIdeal.main_arg2) = m ((c.tc : Thread Cert.RefDownIdeal.nD Cert.RefDownIdeal.τ).loc Cert.RefDownIdeal.main_arg2)
      ∧ r.2.mem ((c.tc : Thread Cert.RefDownIdeal.nD Cert.RefDownIdeal.τ).loc Cert.RefDownIdeal.main_arg3) = m ((c.tc : Thread Cert.RefDownIdeal.nD Cert.RefDownIdeal.τ).loc Cert.RefDownIdeal.main_arg3))
      ∧ r.2.sem = fun _ => 0)

def preserves_Up_UpIdeal : Prop :=
  True

def algebraic_UpIdeal_RefUpIdeal [hUpIdeal : Cert.UpIdeal.Facts] [hRefUpIdeal : Cert.RefUpIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.RefUpIdeal.nD Cert.RefUpIdeal.τ Cert.RefUpIdeal.sig) → Buf (Elt Ideal) ℓ) (g' : Dev Cert.RefUpIdeal.nD → PrngReg), Pre_UpIdeal m →
    (∀ c : Dev Cert.UpIdeal.nD,
      m' ((c.tc : Thread Cert.RefUpIdeal.nD Cert.RefUpIdeal.τ).loc Cert.RefUpIdeal.main_arg0) = m ((c.tc : Thread Cert.UpIdeal.nD Cert.UpIdeal.τ).loc Cert.UpIdeal.main_arg0)
      ∧ m' ((c.tc : Thread Cert.RefUpIdeal.nD Cert.RefUpIdeal.τ).loc Cert.RefUpIdeal.main_arg1) = m ((c.tc : Thread Cert.UpIdeal.nD Cert.UpIdeal.τ).loc Cert.UpIdeal.main_arg1)
      ∧ m' ((c.tc : Thread Cert.RefUpIdeal.nD Cert.RefUpIdeal.τ).loc Cert.RefUpIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v2_0)) (v1 : (c : Dev Cert.UpIdeal.nD) → Buf (Elt Ideal) ((c.tc : Thread Cert.UpIdeal.nD Cert.UpIdeal.τ).loc Cert.UpIdeal.main_v2_1)) (v2 : (c : Dev Cert.UpIdeal.nD) → Buf (Elt Ideal) ((c.tc : Thread Cert.UpIdeal.nD Cert.UpIdeal.τ).loc Cert.UpIdeal.main_v2_2)) (v3 : (c : Dev Cert.UpIdeal.nD) → Buf (Elt Ideal) ((c.tc : Thread Cert.UpIdeal.nD Cert.UpIdeal.τ).loc Cert.UpIdeal.main_v2_3)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2_0) = v0 c
          ∧ r.2.mem ((c.tc : Thread Cert.UpIdeal.nD Cert.UpIdeal.τ).loc Cert.UpIdeal.main_v2_1) = v1 c
          ∧ r.2.mem ((c.tc : Thread Cert.UpIdeal.nD Cert.UpIdeal.τ).loc Cert.UpIdeal.main_v2_2) = v2 c
          ∧ r.2.mem ((c.tc : Thread Cert.UpIdeal.nD Cert.UpIdeal.τ).loc Cert.UpIdeal.main_v2_3) = v3 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.RefUpIdeal.defs (F := Ideal)) (onTc (τ := Cert.RefUpIdeal.τ) (Cert.RefUpIdeal.main (F := Ideal))) ⟨m', fun _ => 0, g'⟩ (fun r => ∀ c : Dev Cert.RefUpIdeal.nD,
          r.2.mem ((c.tc : Thread Cert.RefUpIdeal.nD Cert.RefUpIdeal.τ).loc Cert.RefUpIdeal.main_v2_0) = v0 c
          ∧ r.2.mem ((c.tc : Thread Cert.RefUpIdeal.nD Cert.RefUpIdeal.τ).loc Cert.RefUpIdeal.main_v2_1) = v1 c
          ∧ r.2.mem ((c.tc : Thread Cert.RefUpIdeal.nD Cert.RefUpIdeal.τ).loc Cert.RefUpIdeal.main_v2_2) = v2 c
          ∧ r.2.mem ((c.tc : Thread Cert.RefUpIdeal.nD Cert.RefUpIdeal.τ).loc Cert.RefUpIdeal.main_v2_3) = v3 c
          ∧ r.2.mem ((c.tc : Thread Cert.RefUpIdeal.nD Cert.RefUpIdeal.τ).loc Cert.RefUpIdeal.main_arg0) = m' ((c.tc : Thread Cert.RefUpIdeal.nD Cert.RefUpIdeal.τ).loc Cert.RefUpIdeal.main_arg0)
          ∧ r.2.mem ((c.tc : Thread Cert.RefUpIdeal.nD Cert.RefUpIdeal.τ).loc Cert.RefUpIdeal.main_arg1) = m' ((c.tc : Thread Cert.RefUpIdeal.nD Cert.RefUpIdeal.τ).loc Cert.RefUpIdeal.main_arg1)
          ∧ r.2.mem ((c.tc : Thread Cert.RefUpIdeal.nD Cert.RefUpIdeal.τ).loc Cert.RefUpIdeal.main_arg2) = m' ((c.tc : Thread Cert.RefUpIdeal.nD Cert.RefUpIdeal.τ).loc Cert.RefUpIdeal.main_arg2))

def preserves_Down_DownIdeal : Prop :=
  True

def algebraic_DownIdeal_RefDownIdeal [hDownIdeal : Cert.DownIdeal.Facts] [hRefDownIdeal : Cert.RefDownIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.RefDownIdeal.nD Cert.RefDownIdeal.τ Cert.RefDownIdeal.sig) → Buf (Elt Ideal) ℓ) (g' : Dev Cert.RefDownIdeal.nD → PrngReg), Pre_DownIdeal m →
    (∀ c : Dev Cert.DownIdeal.nD,
      m' ((c.tc : Thread Cert.RefDownIdeal.nD Cert.RefDownIdeal.τ).loc Cert.RefDownIdeal.main_arg0) = m ((c.tc : Thread Cert.DownIdeal.nD Cert.DownIdeal.τ).loc Cert.DownIdeal.main_arg0)
      ∧ m' ((c.tc : Thread Cert.RefDownIdeal.nD Cert.RefDownIdeal.τ).loc Cert.RefDownIdeal.main_arg1) = m ((c.tc : Thread Cert.DownIdeal.nD Cert.DownIdeal.τ).loc Cert.DownIdeal.main_arg1)
      ∧ m' ((c.tc : Thread Cert.RefDownIdeal.nD Cert.RefDownIdeal.τ).loc Cert.RefDownIdeal.main_arg2) = m ((c.tc : Thread Cert.DownIdeal.nD Cert.DownIdeal.τ).loc Cert.DownIdeal.main_arg2)
      ∧ m' ((c.tc : Thread Cert.RefDownIdeal.nD Cert.RefDownIdeal.τ).loc Cert.RefDownIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.RefDownIdeal.defs (F := Ideal)) (onTc (τ := Cert.RefDownIdeal.τ) (Cert.RefDownIdeal.main (F := Ideal))) ⟨m', fun _ => 0, g'⟩ (fun r => ∀ c : Dev Cert.RefDownIdeal.nD,
          r.2.mem ((c.tc : Thread Cert.RefDownIdeal.nD Cert.RefDownIdeal.τ).loc Cert.RefDownIdeal.main_v2) = v0 c
          ∧ r.2.mem ((c.tc : Thread Cert.RefDownIdeal.nD Cert.RefDownIdeal.τ).loc Cert.RefDownIdeal.main_arg0) = m' ((c.tc : Thread Cert.RefDownIdeal.nD Cert.RefDownIdeal.τ).loc Cert.RefDownIdeal.main_arg0)
          ∧ r.2.mem ((c.tc : Thread Cert.RefDownIdeal.nD Cert.RefDownIdeal.τ).loc Cert.RefDownIdeal.main_arg1) = m' ((c.tc : Thread Cert.RefDownIdeal.nD Cert.RefDownIdeal.τ).loc Cert.RefDownIdeal.main_arg1)
          ∧ r.2.mem ((c.tc : Thread Cert.RefDownIdeal.nD Cert.RefDownIdeal.τ).loc Cert.RefDownIdeal.main_arg2) = m' ((c.tc : Thread Cert.RefDownIdeal.nD Cert.RefDownIdeal.τ).loc Cert.RefDownIdeal.main_arg2)
          ∧ r.2.mem ((c.tc : Thread Cert.RefDownIdeal.nD Cert.RefDownIdeal.τ).loc Cert.RefDownIdeal.main_arg3) = m' ((c.tc : Thread Cert.RefDownIdeal.nD Cert.RefDownIdeal.τ).loc Cert.RefDownIdeal.main_arg3))

def Claim : Prop :=
  ∃ (hUp : Cert.Up.Facts) (hUpIdeal : Cert.UpIdeal.Facts) (hRefUpIdeal : Cert.RefUpIdeal.Facts) (hDown : Cert.Down.Facts) (hDownIdeal : Cert.DownIdeal.Facts) (hRefDownIdeal : Cert.RefDownIdeal.Facts),
    quiescent_Up (hUp := hUp)
    ∧ quiescent_UpIdeal (hUpIdeal := hUpIdeal)
    ∧ quiescent_RefUpIdeal (hRefUpIdeal := hRefUpIdeal)
    ∧ quiescent_Down (hDown := hDown)
    ∧ quiescent_DownIdeal (hDownIdeal := hDownIdeal)
    ∧ quiescent_RefDownIdeal (hRefDownIdeal := hRefDownIdeal)
    ∧ preserves_Up_UpIdeal
    ∧ algebraic_UpIdeal_RefUpIdeal (hUpIdeal := hUpIdeal) (hRefUpIdeal := hRefUpIdeal)
    ∧ preserves_Down_DownIdeal
    ∧ algebraic_DownIdeal_RefDownIdeal (hDownIdeal := hDownIdeal) (hRefDownIdeal := hRefDownIdeal)
-- ==== Up.lean ====
abbrev S16x2048x2560 : Shape := ⟨3, ![16, 2048, 2560]⟩
abbrev S2560x13824 : Shape := ⟨2, ![2560, 13824]⟩
abbrev S13824 : Shape := ⟨1, ![13824]⟩
abbrev S32768x2560 : Shape := ⟨2, ![32768, 2560]⟩
abbrev S1x13824 : Shape := ⟨2, ![1, 13824]⟩
abbrev S128x2x128 : Shape := ⟨3, ![128, 2, 128]⟩
abbrev S32768x6912 : Shape := ⟨2, ![32768, 6912]⟩
abbrev S256x2560 : Shape := ⟨2, ![256, 2560]⟩
abbrev S1x2x128 : Shape := ⟨3, ![1, 2, 128]⟩
abbrev S256x6912 : Shape := ⟨2, ![256, 6912]⟩
abbrev S256x128 : Shape := ⟨2, ![256, 128]⟩
abbrev S32x2560 : Shape := ⟨2, ![32, 2560]⟩
abbrev S32 : Shape := ⟨1, ![32]⟩
abbrev S32x1 : Shape := ⟨2, ![32, 1]⟩
abbrev S32x128 : Shape := ⟨2, ![32, 128]⟩
abbrev S2x128x128 : Shape := ⟨3, ![2, 128, 128]⟩
abbrev S128x128 : Shape := ⟨2, ![128, 128]⟩
abbrev S1x128x128 : Shape := ⟨3, ![1, 128, 128]⟩
abbrev S2x128 : Shape := ⟨2, ![2, 128]⟩
abbrev S256 : Shape := ⟨1, ![256]⟩
abbrev S256x1 : Shape := ⟨2, ![256, 1]⟩
abbrev S256x256 : Shape := ⟨2, ![256, 256]⟩
abbrev S2560x256 : Shape := ⟨2, ![2560, 256]⟩
abbrev S1x256 : Shape := ⟨2, ![1, 256]⟩

abbrev nBuf : Space → Nat
  | .hbm => 9
  | .vmem => 18
  | .smem => 0
  | _ => 0

abbrev bufTy : (tb : Table) → Fin (tcTables nBuf tb) → BufTy
  | .hbm, ⟨0, _⟩ => ⟨S16x2048x2560, .bf16⟩
  | .hbm, ⟨1, _⟩ => ⟨S2560x13824, .fp8e4m3⟩
  | .hbm, ⟨2, _⟩ => ⟨S13824, .f32⟩
  | .hbm, ⟨3, _⟩ => ⟨S32768x2560, .bf16⟩
  | .hbm, ⟨4, _⟩ => ⟨S1x13824, .f32⟩
  | .hbm, ⟨5, _⟩ => ⟨S32768x2560, .fp8e4m3⟩
  | .hbm, ⟨6, _⟩ => ⟨S128x2x128, .f32⟩
  | .hbm, ⟨7, _⟩ => ⟨S32768x6912, .fp8e4m3⟩
  | .hbm, ⟨8, _⟩ => ⟨S128x2x128, .f32⟩
  | .local _ .vmem, ⟨0, _⟩ => ⟨S256x2560, .bf16⟩
  | .local _ .vmem, ⟨1, _⟩ => ⟨S256x2560, .bf16⟩
  | .local _ .vmem, ⟨2, _⟩ => ⟨S2560x13824, .fp8e4m3⟩
  | .local _ .vmem, ⟨3, _⟩ => ⟨S1x13824, .f32⟩
  | .local _ .vmem, ⟨4, _⟩ => ⟨S256x2560, .fp8e4m3⟩
  | .local _ .vmem, ⟨5, _⟩ => ⟨S256x2560, .fp8e4m3⟩
  | .local _ .vmem, ⟨6, _⟩ => ⟨S1x2x128, .f32⟩
  | .local _ .vmem, ⟨7, _⟩ => ⟨S1x2x128, .f32⟩
  | .local _ .vmem, ⟨8, _⟩ => ⟨S256x6912, .fp8e4m3⟩
  | .local _ .vmem, ⟨9, _⟩ => ⟨S256x6912, .fp8e4m3⟩
  | .local _ .vmem, ⟨10, _⟩ => ⟨S1x2x128, .f32⟩
  | .local _ .vmem, ⟨11, _⟩ => ⟨S1x2x128, .f32⟩
  | .local _ .vmem, ⟨12, _⟩ => ⟨S256x2560, .fp8e4m3⟩
  | .local _ .vmem, ⟨13, _⟩ => ⟨S256x128, .f32⟩
  | .local _ .vmem, ⟨14, _⟩ => ⟨S256x128, .f32⟩
  | .local _ .vmem, ⟨15, _⟩ => ⟨S256x6912, .f32⟩
  | .local _ .vmem, ⟨16, _⟩ => ⟨S256x128, .f32⟩
  | .local _ .vmem, ⟨17, _⟩ => ⟨S256x128, .f32⟩
  | _, _ => ⟨S16x2048x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![130], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .sge arg0 c1_i32
  let c128_i32 : BitVec 32 := 128#32
  let v4 : BitVec 1 := Scalar.cmpi .sle arg0 c128_i32
  let v5 : BitVec 1 := Scalar.andi v3 v4
  let v6 : BitVec 32 := Scalar.extui v5
  let c0_i32_1 : BitVec 32 := 0#32
  let v7 : BitVec 1 := Scalar.cmpi .ne v6 c0_i32_1
  v7

def k0_cond3 (i : grid0.Coords) : BitVec 1 :=
  let arg0 : BitVec 32 := BitVec.ofNat 32 (i 0).val
  let c129_i32 : BitVec 32 := 129#32
  let v8 : BitVec 1 := Scalar.cmpi .eq arg0 c129_i32
  let v9 : BitVec 32 := Scalar.extui v8
  let c0_i32_2 : BitVec 32 := 0#32
  let v10 : BitVec 1 := Scalar.cmpi .ne v9 c0_i32_2
  v10

def cc0_transform_0 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_4 (i : grid0.Coords) : Fin 3 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 2 → Memref sig .tc .vmem S256x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2560x13824 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x13824 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2560 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x6912 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefUpIdeal.lean ====
abbrev S16x2048x2560 : Shape := ⟨3, ![16, 2048, 2560]⟩
abbrev S2560x13824 : Shape := ⟨2, ![2560, 13824]⟩
abbrev S13824 : Shape := ⟨1, ![13824]⟩
abbrev S32768x2560 : Shape := ⟨2, ![32768, 2560]⟩
abbrev S1x13824 : Shape := ⟨2, ![1, 13824]⟩
abbrev S128x2x128 : Shape := ⟨3, ![128, 2, 128]⟩
abbrev S32768x6912 : Shape := ⟨2, ![32768, 6912]⟩
abbrev S32768 : Shape := ⟨1, ![32768]⟩
abbrev S32768x1 : Shape := ⟨2, ![32768, 1]⟩
abbrev S1x253 : Shape := ⟨2, ![1, 253]⟩
abbrev S32768x253 : Shape := ⟨2, ![32768, 253]⟩
abbrev S32768x13824 : Shape := ⟨2, ![32768, 13824]⟩

abbrev nBuf : Space → Nat
  | .hbm => 9
  | .vmem => 7
  | .smem => 0
  | _ => 0

abbrev bufTy : (tb : Table) → Fin (tcTables nBuf tb) → BufTy
  | .hbm, ⟨0, _⟩ => ⟨S16x2048x2560, .bf16⟩
  | .hbm, ⟨1, _⟩ => ⟨S2560x13824, .fp8e4m3⟩
  | .hbm, ⟨2, _⟩ => ⟨S13824, .f32⟩
  | .hbm, ⟨3, _⟩ => ⟨S32768x2560, .bf16⟩
  | .hbm, ⟨4, _⟩ => ⟨S1x13824, .f32⟩
  | .hbm, ⟨5, _⟩ => ⟨S32768x2560, .fp8e4m3⟩
  | .hbm, ⟨6, _⟩ => ⟨S128x2x128, .f32⟩
  | .hbm, ⟨7, _⟩ => ⟨S32768x6912, .fp8e4m3⟩
  | .hbm, ⟨8, _⟩ => ⟨S128x2x128, .f32⟩
  | .local _ .vmem, ⟨0, _⟩ => ⟨S32768x2560, .bf16⟩
  | .local _ .vmem, ⟨1, _⟩ => ⟨S2560x13824, .fp8e4m3⟩
  | .local _ .vmem, ⟨2, _⟩ => ⟨S1x13824, .f32⟩
  | .local _ .vmem, ⟨3, _⟩ => ⟨S32768x2560, .fp8e4m3⟩
  | .local _ .vmem, ⟨4, _⟩ => ⟨S128x2x128, .f32⟩
  | .local _ .vmem, ⟨5, _⟩ => ⟨S32768x6912, .fp8e4m3⟩
  | .local _ .vmem, ⟨6, _⟩ => ⟨S128x2x128, .f32⟩
  | _, _ => ⟨S16x2048x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S32768x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2560x13824 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x13824 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32768x2560 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32768x6912 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Down.lean ====
abbrev S32768x6912 : Shape := ⟨2, ![32768, 6912]⟩
abbrev S128x2x128 : Shape := ⟨3, ![128, 2, 128]⟩
abbrev S6912x2560 : Shape := ⟨2, ![6912, 2560]⟩
abbrev S2560 : Shape := ⟨1, ![2560]⟩
abbrev S32768x1 : Shape := ⟨2, ![32768, 1]⟩
abbrev S1x2560 : Shape := ⟨2, ![1, 2560]⟩
abbrev S32768x2560 : Shape := ⟨2, ![32768, 2560]⟩
abbrev S1024x6912 : Shape := ⟨2, ![1024, 6912]⟩
abbrev S1024x1 : Shape := ⟨2, ![1024, 1]⟩
abbrev S1024x2560 : Shape := ⟨2, ![1024, 2560]⟩
abbrev S6912x256 : Shape := ⟨2, ![6912, 256]⟩
abbrev S1024x256 : Shape := ⟨2, ![1024, 256]⟩
abbrev S1x256 : Shape := ⟨2, ![1, 256]⟩

abbrev nBuf : Space → Nat
  | .hbm => 7
  | .vmem => 8
  | .smem => 0
  | _ => 0

abbrev bufTy : (tb : Table) → Fin (tcTables nBuf tb) → BufTy
  | .hbm, ⟨0, _⟩ => ⟨S32768x6912, .fp8e4m3⟩
  | .hbm, ⟨1, _⟩ => ⟨S128x2x128, .f32⟩
  | .hbm, ⟨2, _⟩ => ⟨S6912x2560, .fp8e4m3⟩
  | .hbm, ⟨3, _⟩ => ⟨S2560, .f32⟩
  | .hbm, ⟨4, _⟩ => ⟨S32768x1, .f32⟩
  | .hbm, ⟨5, _⟩ => ⟨S1x2560, .f32⟩
  | .hbm, ⟨6, _⟩ => ⟨S32768x2560, .bf16⟩
  | .local _ .vmem, ⟨0, _⟩ => ⟨S1024x6912, .fp8e4m3⟩
  | .local _ .vmem, ⟨1, _⟩ => ⟨S1024x6912, .fp8e4m3⟩
  | .local _ .vmem, ⟨2, _⟩ => ⟨S1024x1, .f32⟩
  | .local _ .vmem, ⟨3, _⟩ => ⟨S1024x1, .f32⟩
  | .local _ .vmem, ⟨4, _⟩ => ⟨S6912x2560, .fp8e4m3⟩
  | .local _ .vmem, ⟨5, _⟩ => ⟨S1x2560, .f32⟩
  | .local _ .vmem, ⟨6, _⟩ => ⟨S1024x2560, .bf16⟩
  | .local _ .vmem, ⟨7, _⟩ => ⟨S1024x2560, .bf16⟩
  | _, _ => ⟨S32768x6912, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x6912 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6912x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x2560 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefDownIdeal.lean ====
abbrev S32768x6912 : Shape := ⟨2, ![32768, 6912]⟩
abbrev S128x2x128 : Shape := ⟨3, ![128, 2, 128]⟩
abbrev S6912x2560 : Shape := ⟨2, ![6912, 2560]⟩
abbrev S2560 : Shape := ⟨1, ![2560]⟩
abbrev S32768x1 : Shape := ⟨2, ![32768, 1]⟩
abbrev S1x2560 : Shape := ⟨2, ![1, 2560]⟩
abbrev S32768x2560 : Shape := ⟨2, ![32768, 2560]⟩

abbrev nBuf : Space → Nat
  | .hbm => 7
  | .vmem => 5
  | .smem => 0
  | _ => 0

abbrev bufTy : (tb : Table) → Fin (tcTables nBuf tb) → BufTy
  | .hbm, ⟨0, _⟩ => ⟨S32768x6912, .fp8e4m3⟩
  | .hbm, ⟨1, _⟩ => ⟨S128x2x128, .f32⟩
  | .hbm, ⟨2, _⟩ => ⟨S6912x2560, .fp8e4m3⟩
  | .hbm, ⟨3, _⟩ => ⟨S2560, .f32⟩
  | .hbm, ⟨4, _⟩ => ⟨S32768x1, .f32⟩
  | .hbm, ⟨5, _⟩ => ⟨S1x2560, .f32⟩
  | .hbm, ⟨6, _⟩ => ⟨S32768x2560, .bf16⟩
  | .local _ .vmem, ⟨0, _⟩ => ⟨S32768x6912, .fp8e4m3⟩
  | .local _ .vmem, ⟨1, _⟩ => ⟨S32768x1, .f32⟩
  | .local _ .vmem, ⟨2, _⟩ => ⟨S6912x2560, .fp8e4m3⟩
  | .local _ .vmem, ⟨3, _⟩ => ⟨S1x2560, .f32⟩
  | .local _ .vmem, ⟨4, _⟩ => ⟨S32768x2560, .bf16⟩
  | _, _ => ⟨S32768x6912, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S32768x6912 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32768x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6912x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32768x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.DownRef.lean ====
/-
  Hand-written, untrusted. What the reference of the down projection computes: its result array is its body's one payload of the
  argument arrays (`RefDown.final`), and that payload at an index is the row of codes times the column of weights, times the row's
  scale, times the column's scale (`RefDown.REF_at`).
-/
module

public import proofs.«01_k».proof.Defs
public import proofs.«01_k».proof.Proof.Gen.RefDownIdeal.Value
public import Idealize.ShloMosaic.Lib.Pipeline.ValueKit

@[expose] public section

set_option maxRecDepth 16384

noncomputable section

namespace Cert.Proof.RefDown

open Idealize.ShloMosaic Idealize.ShloMosaic.TcCoe Idealize.SL.Sem
open Idealize.ShloMosaic.Pipeline (Dat)
open Cert.RefDownIdeal Cert.RefDownIdeal.Gen

variable (m : (ℓ : Loc nD τ sig) → Buf (Elt Ideal) ℓ)

/-- The down projection of codes `X` with row scales `S`, weights `W` and column scales `V`: the reference body's payload. -/
def REF (X : Vec Ideal S32768x6912 .fp8e4m3) (S : Vec Ideal S128x2x128 .f32) (W : Vec Ideal S6912x2560 .fp8e4m3)
    (V : Vec Ideal S2560 .f32) : Vec Ideal S32768x2560 .bf16 :=
  k0_pay1 X W (shapeCast S32768x1 S shapeCasts_S128x2x128_S32768x1) (shapeCast S1x2560 V shapeCasts_S2560_S1x2560)

/-- The reference at an index: row times column, times the row's scale (row `r` is lane `r % 128` of line `r / 128 % 2` of block
    `r / 256`), times the column's scale. -/
theorem REF_at (X : Vec Ideal S32768x6912 .fp8e4m3) (S : Vec Ideal S128x2x128 .f32) (W : Vec Ideal S6912x2560 .fp8e4m3)
    (V : Vec Ideal S2560 .f32) (i : S32768x2560.Idx) :
    REF X S W V i = (∑ k : Fin 6912, X (ix2 (i 0) k) * W (ix2 k (i 1)))
      * S (ix3 (⟨(i 0 : ℕ) / 256, by idx_bounds; omega⟩ : Fin 128) (⟨(i 0 : ℕ) / 128 % 2, by omega⟩ : Fin 2) (⟨(i 0 : ℕ) % 128, by omega⟩ : Fin 128))
      * V (ix1 (i 1)) := by
  pointwise [REF, k0_pay1]

theorem idx : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, _)

theorem iblk0 (c : Dev nD) (t : Fin cfg0.N) : iblk m c 0 t = m ((c : Thread nD τ).loc main_arg0) := by
  blk_ext! [iblk, V, idx t]
theorem iblk1 (c : Dev nD) (t : Fin cfg0.N) :
    iblk m c 1 t = shapeCast S32768x1 (m ((c : Thread nD τ).loc main_arg1)) shapeCasts_S128x2x128_S32768x1 := by
  funext y
  blk_simp [iblk, idx t]
  entry_read
  blk_ext [idx t]
theorem iblk2 (c : Dev nD) (t : Fin cfg0.N) : iblk m c 2 t = m ((c : Thread nD τ).loc main_arg2) := by
  blk_ext! [iblk, V, idx t]
theorem iblk3 (c : Dev nD) (t : Fin cfg0.N) :
    iblk m c 3 t = shapeCast S1x2560 (m ((c : Thread nD τ).loc main_arg3)) shapeCasts_S2560_S1x2560 := by
  funext y
  blk_simp [iblk, idx t]
  entry_read
  blk_ext [idx t]

/-- The result array after the run. -/
theorem final (c : Dev nD) : (dats m 0 c).arrAt 4 (cfgs 0).N
    = REF (m ((c : Thread nD τ).loc main_arg0)) (m ((c : Thread nD τ).loc main_arg1)) (m ((c : Thread nD τ).loc main_arg2))
        (m ((c : Thread nD τ).loc main_arg3)) := by
  refine (dats m 0 c).arrAt_eq_of_after_last 4 t0_0 (by decide +kernel) _ fun j => ?_
  blk_simp
  rw [after0_4]; frame_out
  rw [iblk0, iblk1, iblk2, iblk3]
  rfl

end Cert.Proof.RefDown

end
-- ==== Proof.DownKer.lean ====
/-
  Hand-written, untrusted. What the kernel of the down projection computes: each grid point writes a block of 1024 rows in ten
  column tiles, each tile a product of the rows of codes with 256 columns of weights, scaled by row and by column; put together
  they are the reference's term `RefDown.REF` (`DownKer.final`).
-/
module

public import proofs.«01_k».proof.Proof.DownRef
public import proofs.«01_k».proof.Proof.Gen.DownIdeal.Value
public import Idealize.ShloMosaic.Lib.Pipeline.ValueKit

@[expose] public section

set_option maxRecDepth 16384

noncomputable section

namespace Cert.Proof.DownKer

open Idealize.ShloMosaic Idealize.ShloMosaic.TcCoe Idealize.SL.Sem
open Idealize.ShloMosaic.Pipeline (Dat)
open Cert.DownIdeal Cert.DownIdeal.Gen

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![0, 0] ∧ win0_4.index t = ![t.val, 0] :=
  (by decide +kernel : ∀ t : Fin grid0.N, _)

/-- A tile's payload, over the block's rows and 256 columns. -/
def tile (s : Vec Ideal S1024x1 .f32) (x : Vec Ideal S1024x6912 .fp8e4m3) (w : Vec Ideal S6912x256 .fp8e4m3)
    (v : Vec Ideal S1x256 .f32) : Vec Ideal S1024x256 .bf16 := k0_pay2 (k0_pay3 s) x w v

theorem tile_at (s : Vec Ideal S1024x1 .f32) (x : Vec Ideal S1024x6912 .fp8e4m3) (w : Vec Ideal S6912x256 .fp8e4m3)
    (v : Vec Ideal S1x256 .f32) (i : S1024x256.Idx) :
    tile s x w v i = (∑ k : Fin 6912, x (ix2 (i 0) k) * w (ix2 k (i 1))) * s (ix2 (i 0) (0 : Fin 1)) * v (ix2 (0 : Fin 1) (i 1)) := by
  pointwise [tile, k0_pay2, k0_pay3]

theorem iblk0_at (c : Dev nD) (t : Fin cfg0.N) (r : Fin 1024) (k : Fin 6912) (j : S32768x6912.Idx)
    (h0 : (j 0 : ℕ) = 1024 * t.val + r) (h1 : (j 1 : ℕ) = k) :
    iblk m c 0 t (ix2 r k) = m ((c : Thread nD τ).loc main_arg0) j := by
  blk_ext [iblk, V, idx t]

theorem iblk1_at (c : Dev nD) (t : Fin cfg0.N) (r : Fin 1024) (j : S128x2x128.Idx)
    (h0 : (j 0 : ℕ) * 256 + j 1 * 128 + j 2 = 1024 * t.val + r) :
    iblk m c 1 t (ix2 r (0 : Fin 1)) = m ((c : Thread nD τ).loc main_arg1) j := by
  blk_simp [iblk, idx t]
  entry_read
  pointwise
  blk_ext [idx t]

theorem iblk2_at (c : Dev nD) (t : Fin cfg0.N) : iblk m c 2 t = m ((c : Thread nD τ).loc main_arg2) := by
  blk_ext! [iblk, V, idx t]

theorem iblk3_at (c : Dev nD) (t : Fin cfg0.N) (k : Fin 2560) :
    iblk m c 3 t (ix2 (0 : Fin 1) k) = m ((c : Thread nD τ).loc main_arg3) (ix1 k) := by
  blk_simp [iblk, idx t]
  entry_read
  pointwise
  blk_ext [idx t]

/-- One tile at an index of the block: the arithmetic of `tile_at` over the argument arrays is the reference's. `q` is the tile's
    first column. -/
theorem core (c : Dev nD) (t : Fin cfg0.N) (x : S1024x256.Idx) (y : S1024x2560.Idx) (q : ℕ) (h0 : (y 0 : ℕ) = x 0)
    (h1 : (y 1 : ℕ) = q + x 1) (s : Vec Ideal S1024x1 .f32) (a : Vec Ideal S1024x6912 .fp8e4m3) (w : Vec Ideal S6912x256 .fp8e4m3)
    (v : Vec Ideal S1x256 .f32)
    (ha : ∀ k : Fin 6912, a (ix2 (x 0) k) = iblk m c 0 t (ix2 (y 0) k))
    (hw : ∀ k : Fin 6912, w (ix2 k (x 1)) = iblk m c 2 t (ix2 k (y 1)))
    (hs : s (ix2 (x 0) (0 : Fin 1)) = iblk m c 1 t (ix2 (y 0) (0 : Fin 1)))
    (hv : v (ix2 (0 : Fin 1) (x 1)) = iblk m c 3 t (ix2 (0 : Fin 1) (y 1))) :
    (∑ k : Fin 6912, a (ix2 (x 0) k) * w (ix2 k (x 1))) * s (ix2 (x 0) (0 : Fin 1)) * v (ix2 (0 : Fin 1) (x 1))
      = RefDown.REF (m ((c : Thread nD τ).loc main_arg0)) (m ((c : Thread nD τ).loc main_arg1))
          (m ((c : Thread nD τ).loc main_arg2)) (m ((c : Thread nD τ).loc main_arg3)) (((cfg0.win 4).blk t).view.emb y) := by
  have e0 : ((((cfg0.win 4).blk t).view.emb y) 0 : ℕ) = 1024 * t.val + y 0 := by blk_simp [idx t] <;> omega
  have e1 : ((((cfg0.win 4).blk t).view.emb y) 1 : ℕ) = y 1 := by blk_simp [idx t] <;> omega
  generalize ((cfg0.win 4).blk t).view.emb y = j at e0 e1
  rw [RefDown.REF_at]
  refine congrArg₂ (· * ·) (congrArg₂ (· * ·) (Finset.sum_congr rfl fun k _ => congrArg₂ (· * ·) ?_ ?_) ?_) ?_
  · exact (ha k).trans (iblk0_at m c t (y 0) k _ e0 rfl)
  · refine (hw k).trans ?_
    rw [iblk2_at]
    blk_ext
  · refine hs.trans (iblk1_at m c t (y 0) _ ?_)
    show (j 0 : ℕ) / 256 * 256 + (j 0 : ℕ) / 128 % 2 * 128 + (j 0 : ℕ) % 128 = _
    omega
  · refine (hv.trans (iblk3_at m c t (y 1))).trans ?_
    blk_ext

/-- A load through a rectangle of a matrix, read at an index given by its two coordinates. -/
theorem ld2 {Val : EltTy → Type} {e : EltTy} {s : Fin 2 → ℕ} (X : (⟨2, s⟩ : Shape).Idx → Val e) (off size : Fin 2 → ℕ) (inb)
    (x : (Rect.unit (s := ⟨2, s⟩) off size inb).shape.Idx) (i : (⟨2, s⟩ : Shape).Idx) (h0 : (i 0 : ℕ) = off 0 + x 0)
    (h1 : (i 1 : ℕ) = off 1 + x 1) : View.ld X (Rect.unit off size inb) x = X i :=
  View.ld_unit_apply_of X off size inb x i (Fin.forall_fin_two.mpr ⟨h0, h1⟩)

/-- What point `t` leaves in the block, at an index. -/
theorem point (c : Dev nD) (t : Fin cfg0.N) (y : S1024x2560.Idx) :
    out0_4 (iblk m c 0 t) (iblk m c 1 t) (iblk m c 2 t) (iblk m c 3 t) y
      = RefDown.REF (m ((c : Thread nD τ).loc main_arg0)) (m ((c : Thread nD τ).loc main_arg1))
          (m ((c : Thread nD τ).loc main_arg2)) (m ((c : Thread nD τ).loc main_arg3)) (((cfg0.win 4).blk t).view.emb y) := by
  canon_tiles x h
  case piece0 =>
    exact (tile_at (View.ld (iblk m c 1 t) r0_0) (View.ld (iblk m c 0 t) r0_1) (View.ld (iblk m c 2 t) r0_29) (View.ld (iblk m c 3 t) r0_30) x).trans
      (core m c t x y 2304 h0 h1 _ _ _ _ (fun k => ld2 _ _ _ _ _ _ (h0.trans (Nat.zero_add _).symm) (Nat.zero_add _).symm)
        (fun k => ld2 _ _ _ _ _ _ (Nat.zero_add _).symm h1) (ld2 _ _ _ _ _ _ (h0.trans (Nat.zero_add _).symm) (Nat.zero_add _).symm) (ld2 _ _ _ _ _ _ (Nat.zero_add _).symm h1))
  case piece1 =>
    exact (tile_at (View.ld (iblk m c 1 t) r0_0) (View.ld (iblk m c 0 t) r0_1) (View.ld (iblk m c 2 t) r0_26) (View.ld (iblk m c 3 t) r0_27) x).trans
      (core m c t x y 2048 h0 h1 _ _ _ _ (fun k => ld2 _ _ _ _ _ _ (h0.trans (Nat.zero_add _).symm) (Nat.zero_add _).symm)
        (fun k => ld2 _ _ _ _ _ _ (Nat.zero_add _).symm h1) (ld2 _ _ _ _ _ _ (h0.trans (Nat.zero_add _).symm) (Nat.zero_add _).symm) (ld2 _ _ _ _ _ _ (Nat.zero_add _).symm h1))
  case piece2 =>
    exact (tile_at (View.ld (iblk m c 1 t) r0_0) (View.ld (iblk m c 0 t) r0_1) (View.ld (iblk m c 2 t) r0_23) (View.ld (iblk m c 3 t) r0_24) x).trans
      (core m c t x y 1792 h0 h1 _ _ _ _ (fun k => ld2 _ _ _ _ _ _ (h0.trans (Nat.zero_add _).symm) (Nat.zero_add _).symm)
        (fun k => ld2 _ _ _ _ _ _ (Nat.zero_add _).symm h1) (ld2 _ _ _ _ _ _ (h0.trans (Nat.zero_add _).symm) (Nat.zero_add _).symm) (ld2 _ _ _ _ _ _ (Nat.zero_add _).symm h1))
  case piece3 =>
    exact (tile_at (View.ld (iblk m c 1 t) r0_0) (View.ld (iblk m c 0 t) r0_1) (View.ld (iblk m c 2 t) r0_20) (View.ld (iblk m c 3 t) r0_21) x).trans
      (core m c t x y 1536 h0 h1 _ _ _ _ (fun k => ld2 _ _ _ _ _ _ (h0.trans (Nat.zero_add _).symm) (Nat.zero_add _).symm)
        (fun k => ld2 _ _ _ _ _ _ (Nat.zero_add _).symm h1) (ld2 _ _ _ _ _ _ (h0.trans (Nat.zero_add _).symm) (Nat.zero_add _).symm) (ld2 _ _ _ _ _ _ (Nat.zero_add _).symm h1))
  case piece4 =>
    exact (tile_at (View.ld (iblk m c 1 t) r0_0) (View.ld (iblk m c 0 t) r0_1) (View.ld (iblk m c 2 t) r0_17) (View.ld (iblk m c 3 t) r0_18) x).trans
      (core m c t x y 1280 h0 h1 _ _ _ _ (fun k => ld2 _ _ _ _ _ _ (h0.trans (Nat.zero_add _).symm) (Nat.zero_add _).symm)
        (fun k => ld2 _ _ _ _ _ _ (Nat.zero_add _).symm h1) (ld2 _ _ _ _ _ _ (h0.trans (Nat.zero_add _).symm) (Nat.zero_add _).symm) (ld2 _ _ _ _ _ _ (Nat.zero_add _).symm h1))
  case piece5 =>
    exact (tile_at (View.ld (iblk m c 1 t) r0_0) (View.ld (iblk m c 0 t) r0_1) (View.ld (iblk m c 2 t) r0_14) (View.ld (iblk m c 3 t) r0_15) x).trans
      (core m c t x y 1024 h0 h1 _ _ _ _ (fun k => ld2 _ _ _ _ _ _ (h0.trans (Nat.zero_add _).symm) (Nat.zero_add _).symm)
        (fun k => ld2 _ _ _ _ _ _ (Nat.zero_add _).symm h1) (ld2 _ _ _ _ _ _ (h0.trans (Nat.zero_add _).symm) (Nat.zero_add _).symm) (ld2 _ _ _ _ _ _ (Nat.zero_add _).symm h1))
  case piece6 =>
    exact (tile_at (View.ld (iblk m c 1 t) r0_0) (View.ld (iblk m c 0 t) r0_1) (View.ld (iblk m c 2 t) r0_11) (View.ld (iblk m c 3 t) r0_12) x).trans
      (core m c t x y 768 h0 h1 _ _ _ _ (fun k => ld2 _ _ _ _ _ _ (h0.trans (Nat.zero_add _).symm) (Nat.zero_add _).symm)
        (fun k => ld2 _ _ _ _ _ _ (Nat.zero_add _).symm h1) (ld2 _ _ _ _ _ _ (h0.trans (Nat.zero_add _).symm) (Nat.zero_add _).symm) (ld2 _ _ _ _ _ _ (Nat.zero_add _).symm h1))
  case piece7 =>
    exact (tile_at (View.ld (iblk m c 1 t) r0_0) (View.ld (iblk m c 0 t) r0_1) (View.ld (iblk m c 2 t) r0_8) (View.ld (iblk m c 3 t) r0_9) x).trans
      (core m c t x y 512 h0 h1 _ _ _ _ (fun k => ld2 _ _ _ _ _ _ (h0.trans (Nat.zero_add _).symm) (Nat.zero_add _).symm)
        (fun k => ld2 _ _ _ _ _ _ (Nat.zero_add _).symm h1) (ld2 _ _ _ _ _ _ (h0.trans (Nat.zero_add _).symm) (Nat.zero_add _).symm) (ld2 _ _ _ _ _ _ (Nat.zero_add _).symm h1))
  case piece8 =>
    exact (tile_at (View.ld (iblk m c 1 t) r0_0) (View.ld (iblk m c 0 t) r0_1) (View.ld (iblk m c 2 t) r0_5) (View.ld (iblk m c 3 t) r0_6) x).trans
      (core m c t x y 256 h0 h1 _ _ _ _ (fun k => ld2 _ _ _ _ _ _ (h0.trans (Nat.zero_add _).symm) (Nat.zero_add _).symm)
        (fun k => ld2 _ _ _ _ _ _ (Nat.zero_add _).symm h1) (ld2 _ _ _ _ _ _ (h0.trans (Nat.zero_add _).symm) (Nat.zero_add _).symm) (ld2 _ _ _ _ _ _ (Nat.zero_add _).symm h1))
  case piece9 =>
    exact (tile_at (View.ld (iblk m c 1 t) r0_0) (View.ld (iblk m c 0 t) r0_1) (View.ld (iblk m c 2 t) r0_2) (View.ld (iblk m c 3 t) r0_3) x).trans
      (core m c t x y 0 h0 (h1.trans (Nat.zero_add _).symm) _ _ _ _ (fun k => ld2 _ _ _ _ _ _ (h0.trans (Nat.zero_add _).symm) (Nat.zero_add _).symm)
        (fun k => ld2 _ _ _ _ _ _ (Nat.zero_add _).symm (h1.trans (Nat.zero_add _).symm)) (ld2 _ _ _ _ _ _ (h0.trans (Nat.zero_add _).symm) (Nat.zero_add _).symm) (ld2 _ _ _ _ _ _ (Nat.zero_add _).symm (h1.trans (Nat.zero_add _).symm)))

/-- The result array after the run. -/
theorem final (c : Dev nD) : (dats m 0 c).arrAt 4 (cfgs 0).N
    = RefDown.REF (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]
  exact point m c t y

end Cert.Proof.DownKer

end
-- ==== Proof.DownAlg.lean ====
/-
  Hand-written, untrusted. The algebraic claim of the down projection: from equal arguments the kernel and the reference both run
  and end with the same result array, the reference's term `RefDown.REF` of the arguments.
-/
module

public import proofs.«01_k».proof.Proof.DownKer
public import Idealize.ShloMosaic.Lib.Claim

@[expose] public section

set_option maxRecDepth 16384

noncomputable section

namespace Cert.Proof

open Idealize.ShloMosaic Idealize.ShloMosaic.TcCoe Idealize.SL.Sem

/-- `Cert.algebraic_DownIdeal_RefDownIdeal`: both run, and from equal arguments the results are equal. -/
theorem algebraic_Down : Cert.algebraic_DownIdeal_RefDownIdeal (hDownIdeal := Cert.DownIdeal.Gen.facts)
    (hRefDownIdeal := Cert.RefDownIdeal.Gen.facts) := by
  pair_intro
  · run_from Cert.DownIdeal.Gen.run_main m g
  · run_from Cert.RefDownIdeal.Gen.run_main m' g'
    rw [RefDown.final]
    rw [(hagree c).1, (hagree c).2.1, (hagree c).2.2.1, (hagree c).2.2.2]
    exact (DownKer.final m c).symm

end Cert.Proof

end
-- ==== Proof.UpFrame.lean ====
/- The frame of the gate/up kernel `Up`: every execution of its @main terminates with the argument arrays as launched
   and every semaphore counter at zero. Nothing is said here of what the outputs hold, so the scratch buffers and the
   output blocks pass from grid point to grid point at any contents. The body's three cases (its `pl.when`s) are run
   one by one (`runA`, `runB`, `runC`); `frame` is the result. -/
module

public import proofs.«01_k».proof.Proof.Gen.Up.Frame
public import proofs.«01_k».proof.Proof.Gen.Up.Skeleton
public import Idealize.ShloMosaic.Lib.Claim

@[expose] public section

set_option maxRecDepth 16384

noncomputable section

namespace Cert.Proof.UpFrame

open Cert.Up Cert.Up.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 130 = 0 :=
  (fun t => by
    have ht : t.val < 130 := Nat.lt_of_lt_of_eq t.isLt N_0
    have e0 : (grid0.coords t 0).val = t.val / 1 % 130 := Pipeline.Grid.coords_val t 0 (by decide) rfl
    simp only [cond0_0, k0_cond1, e0]
    word_cmp
   : ∀ t : Fin grid0.N, cond0_0 (grid0.coords t) ↔ t.val % 130 = 0)

/-- The condition of the body's `scf.if` 1 (`k0_h2`), from the grid coordinates (the skeleton's scalar
    chain substituted). -/
abbrev cond0_1 (i : grid0.Coords) : Prop := k0_cond2 i = 1#1
/-- It holds at the points whose coordinates have 1 ≤ i0 and i0 ≤ 128 — decided over the grid. -/
theorem hcond0_1 : ∀ t : Fin cfg0.N, cond0_1 (grid0.coords t) ↔ (1 ≤ t.val % 130 ∧ t.val % 130 ≤ 128) :=
  (by decide +kernel : ∀ t : Fin grid0.N, cond0_1 (grid0.coords t) ↔ (1 ≤ t.val % 130 ∧ t.val % 130 ≤ 128))

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 130 = 129 :=
  (fun t => by
    have ht : t.val < 130 := Nat.lt_of_lt_of_eq t.isLt N_0
    have e0 : (grid0.coords t 0).val = t.val / 1 % 130 := Pipeline.Grid.coords_val t 0 (by decide) rfl
    simp only [cond0_2, k0_cond3, e0]
    word_cmp
   : ∀ t : Fin grid0.N, cond0_2 (grid0.coords t) ↔ t.val % 130 = 129)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S256x2560 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2560x13824 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x13824 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x2560 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x6912 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2x128 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S256x2560 .fp8e4m3 := Memref.whole cc0_scratch0
abbrev scM0_1 : Memref sig .tc .vmem S256x128 .f32 := Memref.whole cc0_scratch1
abbrev scM0_2 : Memref sig .tc .vmem S256x128 .f32 := Memref.whole cc0_scratch2
abbrev scM0_3 : Memref sig .tc .vmem S256x6912 .f32 := Memref.whole cc0_scratch3
abbrev scM0_4 : Memref sig .tc .vmem S256x128 .f32 := Memref.whole cc0_scratch4
abbrev scM0_5 : Memref sig .tc .vmem S256x128 .f32 := Memref.whole cc0_scratch5

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-! ## The body, case by case -/

set_option maxHeartbeats 1000000 in
/-- The body at the first grid point: from whole buffers — the inputs' at named contents, every other at any contents — it runs to
    the end, the inputs' buffers as they were. -/
theorem runA (c : Dev nD) (i : grid0.Coords) (arg1 : Memref sig .tc .vmem S256x2560 .bf16) (harg1 : arg1.IsWhole) (arg2 : Memref sig .tc .vmem S2560x13824 .fp8e4m3) (harg2 : arg2.IsWhole) (arg3 : Memref sig .tc .vmem S1x13824 .f32) (harg3 : arg3.IsWhole) (arg4 : Memref sig .tc .vmem S256x2560 .fp8e4m3) (harg4 : arg4.IsWhole) (arg5 : Memref sig .tc .vmem S1x2x128 .f32) (harg5 : arg5.IsWhole) (arg6 : Memref sig .tc .vmem S256x6912 .fp8e4m3) (harg6 : arg6.IsWhole) (arg7 : Memref sig .tc .vmem S1x2x128 .f32) (harg7 : arg7.IsWhole) (arg8 : Memref sig .tc .vmem S256x2560 .fp8e4m3) (harg8 : arg8.IsWhole) (arg9 : Memref sig .tc .vmem S256x128 .f32) (harg9 : arg9.IsWhole) (arg10 : Memref sig .tc .vmem S256x128 .f32) (harg10 : arg10.IsWhole) (arg11 : Memref sig .tc .vmem S256x6912 .f32) (harg11 : arg11.IsWhole) (arg12 : Memref sig .tc .vmem S256x128 .f32) (harg12 : arg12.IsWhole) (arg13 : Memref sig .tc .vmem S256x128 .f32) (harg13 : arg13.IsWhole) (hc0 : cond0_0 i) (hc1 : ¬cond0_1 i) (hc2 : ¬cond0_2 i)
    (x0 : Vec F S256x2560 .bf16) (x1 : Vec F S2560x13824 .fp8e4m3) (x2 : Vec F S1x13824 .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_gate_up i arg1 harg1 arg2 harg2 arg3 harg3 arg4 harg4 arg5 harg5 arg6 harg6 arg7 harg7 arg8 harg8 arg9 harg9 arg10 harg10 arg11 harg11 arg12 harg12 arg13 harg13) K := by
  simp only [cc0_gate_up_eq_skeleton]; unfold cc0_gate_up_skel
  simp only [k0_part23_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  obtain rfl := harg1.eq_unread hf0; obtain rfl := harg2.eq_unread hf1; obtain rfl := harg3.eq_unread hf2
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  iexists _, _; isplitr; swap; · iexact H12
  ipureintro; rfl

set_option maxHeartbeats 2820000 in
/-- The body at the grid points 1, …, 128: from whole buffers — the inputs' at named contents, every other at any contents — it runs to
    the end, the inputs' buffers as they were. -/
theorem runB (c : Dev nD) (i : grid0.Coords) (arg1 : Memref sig .tc .vmem S256x2560 .bf16) (harg1 : arg1.IsWhole) (arg2 : Memref sig .tc .vmem S2560x13824 .fp8e4m3) (harg2 : arg2.IsWhole) (arg3 : Memref sig .tc .vmem S1x13824 .f32) (harg3 : arg3.IsWhole) (arg4 : Memref sig .tc .vmem S256x2560 .fp8e4m3) (harg4 : arg4.IsWhole) (arg5 : Memref sig .tc .vmem S1x2x128 .f32) (harg5 : arg5.IsWhole) (arg6 : Memref sig .tc .vmem S256x6912 .fp8e4m3) (harg6 : arg6.IsWhole) (arg7 : Memref sig .tc .vmem S1x2x128 .f32) (harg7 : arg7.IsWhole) (arg8 : Memref sig .tc .vmem S256x2560 .fp8e4m3) (harg8 : arg8.IsWhole) (arg9 : Memref sig .tc .vmem S256x128 .f32) (harg9 : arg9.IsWhole) (arg10 : Memref sig .tc .vmem S256x128 .f32) (harg10 : arg10.IsWhole) (arg11 : Memref sig .tc .vmem S256x6912 .f32) (harg11 : arg11.IsWhole) (arg12 : Memref sig .tc .vmem S256x128 .f32) (harg12 : arg12.IsWhole) (arg13 : Memref sig .tc .vmem S256x128 .f32) (harg13 : arg13.IsWhole) (hc0 : ¬cond0_0 i) (hc1 : cond0_1 i) (hc2 : ¬cond0_2 i)
    (x0 : Vec F S256x2560 .bf16) (x1 : Vec F S2560x13824 .fp8e4m3) (x2 : Vec F S1x13824 .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_gate_up i arg1 harg1 arg2 harg2 arg3 harg3 arg4 harg4 arg5 harg5 arg6 harg6 arg7 harg7 arg8 harg8 arg9 harg9 arg10 harg10 arg11 harg11 arg12 harg12 arg13 harg13) K := by
  simp only [cc0_gate_up_eq_skeleton]; unfold cc0_gate_up_skel
  simp only [k0_part83_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  obtain rfl := harg1.eq_unread hf0; obtain rfl := harg2.eq_unread hf1; obtain rfl := harg3.eq_unread hf2
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  iexists _, _; isplitr; swap; · iexact H12
  ipureintro; rfl

set_option maxHeartbeats 1000000 in
/-- The body at the last grid point: from whole buffers — the inputs' at named contents, every other at any contents — it runs to
    the end, the inputs' buffers as they were. -/
theorem runC (c : Dev nD) (i : grid0.Coords) (arg1 : Memref sig .tc .vmem S256x2560 .bf16) (harg1 : arg1.IsWhole) (arg2 : Memref sig .tc .vmem S2560x13824 .fp8e4m3) (harg2 : arg2.IsWhole) (arg3 : Memref sig .tc .vmem S1x13824 .f32) (harg3 : arg3.IsWhole) (arg4 : Memref sig .tc .vmem S256x2560 .fp8e4m3) (harg4 : arg4.IsWhole) (arg5 : Memref sig .tc .vmem S1x2x128 .f32) (harg5 : arg5.IsWhole) (arg6 : Memref sig .tc .vmem S256x6912 .fp8e4m3) (harg6 : arg6.IsWhole) (arg7 : Memref sig .tc .vmem S1x2x128 .f32) (harg7 : arg7.IsWhole) (arg8 : Memref sig .tc .vmem S256x2560 .fp8e4m3) (harg8 : arg8.IsWhole) (arg9 : Memref sig .tc .vmem S256x128 .f32) (harg9 : arg9.IsWhole) (arg10 : Memref sig .tc .vmem S256x128 .f32) (harg10 : arg10.IsWhole) (arg11 : Memref sig .tc .vmem S256x6912 .f32) (harg11 : arg11.IsWhole) (arg12 : Memref sig .tc .vmem S256x128 .f32) (harg12 : arg12.IsWhole) (arg13 : Memref sig .tc .vmem S256x128 .f32) (harg13 : arg13.IsWhole) (hc0 : ¬cond0_0 i) (hc1 : ¬cond0_1 i) (hc2 : cond0_2 i)
    (x0 : Vec F S256x2560 .bf16) (x1 : Vec F S2560x13824 .fp8e4m3) (x2 : Vec F S1x13824 .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_gate_up i arg1 harg1 arg2 harg2 arg3 harg3 arg4 harg4 arg5 harg5 arg6 harg6 arg7 harg7 arg8 harg8 arg9 harg9 arg10 harg10 arg11 harg11 arg12 harg12 arg13 harg13) K := by
  simp only [cc0_gate_up_eq_skeleton]; unfold cc0_gate_up_skel
  simp only [k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  obtain rfl := harg1.eq_unread hf0; obtain rfl := harg2.eq_unread hf1; obtain rfl := harg3.eq_unread hf2
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  iexists _, _; isplitr; swap; · iexact H12
  ipureintro; rfl

/-! ## The proof data -/

/-- The outputs, of which nothing is named. -/
def forgets0 : Fin 7 → Bool := fun w => w.val == 3 || w.val == 4 || w.val == 5 || w.val == 6

/-- The proof data: after the body each input's buffer holds its block; the invariant is the launch's own. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d))

set_option maxHeartbeats 4000000 in
/-- The body at any point, by the case of its grid coordinate. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  have hN : t.val < 130 := lt_of_lt_of_eq t.isLt (show cfg0.N = 130 from N_0)
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩⟩
  by_cases h0 : t.val % 130 = 0
  · have h1 : ¬(1 ≤ t.val % 130 ∧ t.val % 130 ≤ 128) := by omega
    have h2 : ¬t.val % 130 = 129 := by omega
    iapply (runA c (grid0.coords t) _ _ _ _ _ _ _ _ _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, HS0, HS1, HS2, HS3, HS4, HS5⟩
    isplitl [HS0 HS1 HS2 HS3 HS4 HS5 Hg]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · by_cases h1 : (1 ≤ t.val % 130 ∧ t.val % 130 ≤ 128)
    · have h2 : ¬t.val % 130 = 129 := by omega
      iapply (runB c (grid0.coords t) _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexists _; iexact H6
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, HS0, HS1, HS2, HS3, HS4, HS5⟩
      isplitl [HS0 HS1 HS2 HS3 HS4 HS5 Hg]
      · isplitl [HS0 HS1 HS2 HS3 HS4 HS5]
        · isplitl [HS0]; · iexact HS0
          isplitl [HS1]; · iexact HS1
          isplitl [HS2]; · iexact HS2
          isplitl [HS3]; · iexact HS3
          isplitl [HS4]; · iexact HS4
          iexact HS5
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have h2 : t.val % 130 = 129 := by omega
      iapply (runC c (grid0.coords t) _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexists _; iexact H6
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, HS0, HS1, HS2, HS3, HS4, HS5⟩
      isplitl [HS0 HS1 HS2 HS3 HS4 HS5 Hg]
      · isplitl [HS0 HS1 HS2 HS3 HS4 HS5]
        · isplitl [HS0]; · iexact HS0
          isplitl [HS1]; · iexact HS1
          isplitl [HS2]; · iexact HS2
          isplitl [HS3]; · iexact HS3
          isplitl [HS4]; · iexact HS4
          iexact HS5
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- the launch theorem's implicit arguments are found by unifying its conclusion with this one
set_option backward.isDefEq.respectTransparency.types false in
/-- The launch: every fair execution terminates, the input arrays unchanged, every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- The frame at any values: every execution terminates, the arguments end as launched, every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      (Pipeline.RDat.FramePost.arr_in h.1 c 1 rfl).trans ((A_eq m c 1).trans (V_main_arg1 m c)),
      ((h.1 c).2 main_arg2 (Pipeline.mem_restRefs_of main_arg2 (by decide) (by decide))).trans (V_main_arg2 m c)⟩, h.2⟩)
    (run_main_quiescent m ρ)

end Cert.Proof.UpFrame

end
-- ==== Proof.UpIdealFrame.lean ====
/- The frame of the gate/up kernel `UpIdeal`: every execution of its @main terminates with the argument arrays as launched
   and every semaphore counter at zero. Nothing is said here of what the outputs hold, so the scratch buffers and the
   output blocks pass from grid point to grid point at any contents. The body's three cases (its `pl.when`s) are run
   one by one (`runA`, `runB`, `runC`); `frame` is the result. -/
module

public import proofs.«01_k».proof.Proof.Gen.UpIdeal.Frame
public import proofs.«01_k».proof.Proof.Gen.UpIdeal.Skeleton
public import Idealize.ShloMosaic.Lib.Claim

@[expose] public section

set_option maxRecDepth 16384

noncomputable section

namespace Cert.Proof.UpIdealFrame

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 130 = 0 :=
  (fun t => by
    have ht : t.val < 130 := Nat.lt_of_lt_of_eq t.isLt N_0
    have e0 : (grid0.coords t 0).val = t.val / 1 % 130 := Pipeline.Grid.coords_val t 0 (by decide) rfl
    simp only [cond0_0, k0_cond1, e0]
    word_cmp
   : ∀ t : Fin grid0.N, cond0_0 (grid0.coords t) ↔ t.val % 130 = 0)

/-- The condition of the body's `scf.if` 1 (`k0_h2`), from the grid coordinates (the skeleton's scalar
    chain substituted). -/
abbrev cond0_1 (i : grid0.Coords) : Prop := k0_cond2 i = 1#1
/-- It holds at the points whose coordinates have 1 ≤ i0 and i0 ≤ 128 — decided over the grid. -/
theorem hcond0_1 : ∀ t : Fin cfg0.N, cond0_1 (grid0.coords t) ↔ (1 ≤ t.val % 130 ∧ t.val % 130 ≤ 128) :=
  (by decide +kernel : ∀ t : Fin grid0.N, cond0_1 (grid0.coords t) ↔ (1 ≤ t.val % 130 ∧ t.val % 130 ≤ 128))

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 130 = 129 :=
  (fun t => by
    have ht : t.val < 130 := Nat.lt_of_lt_of_eq t.isLt N_0
    have e0 : (grid0.coords t 0).val = t.val / 1 % 130 := Pipeline.Grid.coords_val t 0 (by decide) rfl
    simp only [cond0_2, k0_cond3, e0]
    word_cmp
   : ∀ t : Fin grid0.N, cond0_2 (grid0.coords t) ↔ t.val % 130 = 129)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S256x2560 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2560x13824 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x13824 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x2560 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x6912 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2x128 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S256x2560 .fp8e4m3 := Memref.whole cc0_scratch0
abbrev scM0_1 : Memref sig .tc .vmem S256x128 .f32 := Memref.whole cc0_scratch1
abbrev scM0_2 : Memref sig .tc .vmem S256x128 .f32 := Memref.whole cc0_scratch2
abbrev scM0_3 : Memref sig .tc .vmem S256x6912 .f32 := Memref.whole cc0_scratch3
abbrev scM0_4 : Memref sig .tc .vmem S256x128 .f32 := Memref.whole cc0_scratch4
abbrev scM0_5 : Memref sig .tc .vmem S256x128 .f32 := Memref.whole cc0_scratch5

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-! ## The body, case by case -/

set_option maxHeartbeats 1000000 in
/-- The body at the first grid point: from whole buffers — the inputs' at named contents, every other at any contents — it runs to
    the end, the inputs' buffers as they were. -/
theorem runA (c : Dev nD) (i : grid0.Coords) (arg1 : Memref sig .tc .vmem S256x2560 .bf16) (harg1 : arg1.IsWhole) (arg2 : Memref sig .tc .vmem S2560x13824 .fp8e4m3) (harg2 : arg2.IsWhole) (arg3 : Memref sig .tc .vmem S1x13824 .f32) (harg3 : arg3.IsWhole) (arg4 : Memref sig .tc .vmem S256x2560 .fp8e4m3) (harg4 : arg4.IsWhole) (arg5 : Memref sig .tc .vmem S1x2x128 .f32) (harg5 : arg5.IsWhole) (arg6 : Memref sig .tc .vmem S256x6912 .fp8e4m3) (harg6 : arg6.IsWhole) (arg7 : Memref sig .tc .vmem S1x2x128 .f32) (harg7 : arg7.IsWhole) (arg8 : Memref sig .tc .vmem S256x2560 .fp8e4m3) (harg8 : arg8.IsWhole) (arg9 : Memref sig .tc .vmem S256x128 .f32) (harg9 : arg9.IsWhole) (arg10 : Memref sig .tc .vmem S256x128 .f32) (harg10 : arg10.IsWhole) (arg11 : Memref sig .tc .vmem S256x6912 .f32) (harg11 : arg11.IsWhole) (arg12 : Memref sig .tc .vmem S256x128 .f32) (harg12 : arg12.IsWhole) (arg13 : Memref sig .tc .vmem S256x128 .f32) (harg13 : arg13.IsWhole) (hc0 : cond0_0 i) (hc1 : ¬cond0_1 i) (hc2 : ¬cond0_2 i)
    (x0 : Vec F S256x2560 .bf16) (x1 : Vec F S2560x13824 .fp8e4m3) (x2 : Vec F S1x13824 .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_gate_up i arg1 harg1 arg2 harg2 arg3 harg3 arg4 harg4 arg5 harg5 arg6 harg6 arg7 harg7 arg8 harg8 arg9 harg9 arg10 harg10 arg11 harg11 arg12 harg12 arg13 harg13) K := by
  simp only [cc0_gate_up_eq_skeleton]; unfold cc0_gate_up_skel
  simp only [k0_part23_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  obtain rfl := harg1.eq_unread hf0; obtain rfl := harg2.eq_unread hf1; obtain rfl := harg3.eq_unread hf2
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  iexists _, _; isplitr; swap; · iexact H12
  ipureintro; rfl

set_option maxHeartbeats 2820000 in
/-- The body at the grid points 1, …, 128: from whole buffers — the inputs' at named contents, every other at any contents — it runs to
    the end, the inputs' buffers as they were. -/
theorem runB (c : Dev nD) (i : grid0.Coords) (arg1 : Memref sig .tc .vmem S256x2560 .bf16) (harg1 : arg1.IsWhole) (arg2 : Memref sig .tc .vmem S2560x13824 .fp8e4m3) (harg2 : arg2.IsWhole) (arg3 : Memref sig .tc .vmem S1x13824 .f32) (harg3 : arg3.IsWhole) (arg4 : Memref sig .tc .vmem S256x2560 .fp8e4m3) (harg4 : arg4.IsWhole) (arg5 : Memref sig .tc .vmem S1x2x128 .f32) (harg5 : arg5.IsWhole) (arg6 : Memref sig .tc .vmem S256x6912 .fp8e4m3) (harg6 : arg6.IsWhole) (arg7 : Memref sig .tc .vmem S1x2x128 .f32) (harg7 : arg7.IsWhole) (arg8 : Memref sig .tc .vmem S256x2560 .fp8e4m3) (harg8 : arg8.IsWhole) (arg9 : Memref sig .tc .vmem S256x128 .f32) (harg9 : arg9.IsWhole) (arg10 : Memref sig .tc .vmem S256x128 .f32) (harg10 : arg10.IsWhole) (arg11 : Memref sig .tc .vmem S256x6912 .f32) (harg11 : arg11.IsWhole) (arg12 : Memref sig .tc .vmem S256x128 .f32) (harg12 : arg12.IsWhole) (arg13 : Memref sig .tc .vmem S256x128 .f32) (harg13 : arg13.IsWhole) (hc0 : ¬cond0_0 i) (hc1 : cond0_1 i) (hc2 : ¬cond0_2 i)
    (x0 : Vec F S256x2560 .bf16) (x1 : Vec F S2560x13824 .fp8e4m3) (x2 : Vec F S1x13824 .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_gate_up i arg1 harg1 arg2 harg2 arg3 harg3 arg4 harg4 arg5 harg5 arg6 harg6 arg7 harg7 arg8 harg8 arg9 harg9 arg10 harg10 arg11 harg11 arg12 harg12 arg13 harg13) K := by
  simp only [cc0_gate_up_eq_skeleton]; unfold cc0_gate_up_skel
  simp only [k0_part83_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  obtain rfl := harg1.eq_unread hf0; obtain rfl := harg2.eq_unread hf1; obtain rfl := harg3.eq_unread hf2
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  iexists _, _; isplitr; swap; · iexact H12
  ipureintro; rfl

set_option maxHeartbeats 1000000 in
/-- The body at the last grid point: from whole buffers — the inputs' at named contents, every other at any contents — it runs to
    the end, the inputs' buffers as they were. -/
theorem runC (c : Dev nD) (i : grid0.Coords) (arg1 : Memref sig .tc .vmem S256x2560 .bf16) (harg1 : arg1.IsWhole) (arg2 : Memref sig .tc .vmem S2560x13824 .fp8e4m3) (harg2 : arg2.IsWhole) (arg3 : Memref sig .tc .vmem S1x13824 .f32) (harg3 : arg3.IsWhole) (arg4 : Memref sig .tc .vmem S256x2560 .fp8e4m3) (harg4 : arg4.IsWhole) (arg5 : Memref sig .tc .vmem S1x2x128 .f32) (harg5 : arg5.IsWhole) (arg6 : Memref sig .tc .vmem S256x6912 .fp8e4m3) (harg6 : arg6.IsWhole) (arg7 : Memref sig .tc .vmem S1x2x128 .f32) (harg7 : arg7.IsWhole) (arg8 : Memref sig .tc .vmem S256x2560 .fp8e4m3) (harg8 : arg8.IsWhole) (arg9 : Memref sig .tc .vmem S256x128 .f32) (harg9 : arg9.IsWhole) (arg10 : Memref sig .tc .vmem S256x128 .f32) (harg10 : arg10.IsWhole) (arg11 : Memref sig .tc .vmem S256x6912 .f32) (harg11 : arg11.IsWhole) (arg12 : Memref sig .tc .vmem S256x128 .f32) (harg12 : arg12.IsWhole) (arg13 : Memref sig .tc .vmem S256x128 .f32) (harg13 : arg13.IsWhole) (hc0 : ¬cond0_0 i) (hc1 : ¬cond0_1 i) (hc2 : cond0_2 i)
    (x0 : Vec F S256x2560 .bf16) (x1 : Vec F S2560x13824 .fp8e4m3) (x2 : Vec F S1x13824 .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_gate_up i arg1 harg1 arg2 harg2 arg3 harg3 arg4 harg4 arg5 harg5 arg6 harg6 arg7 harg7 arg8 harg8 arg9 harg9 arg10 harg10 arg11 harg11 arg12 harg12 arg13 harg13) K := by
  simp only [cc0_gate_up_eq_skeleton]; unfold cc0_gate_up_skel
  simp only [k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  obtain rfl := harg1.eq_unread hf0; obtain rfl := harg2.eq_unread hf1; obtain rfl := harg3.eq_unread hf2
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  iexists _, _; isplitr; swap; · iexact H12
  ipureintro; rfl

/-! ## The proof data -/

/-- The outputs, of which nothing is named. -/
def forgets0 : Fin 7 → Bool := fun w => w.val == 3 || w.val == 4 || w.val == 5 || w.val == 6

/-- The proof data: after the body each input's buffer holds its block; the invariant is the launch's own. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d))

set_option maxHeartbeats 4000000 in
/-- The body at any point, by the case of its grid coordinate. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  have hN : t.val < 130 := lt_of_lt_of_eq t.isLt (show cfg0.N = 130 from N_0)
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩⟩
  by_cases h0 : t.val % 130 = 0
  · have h1 : ¬(1 ≤ t.val % 130 ∧ t.val % 130 ≤ 128) := by omega
    have h2 : ¬t.val % 130 = 129 := by omega
    iapply (runA c (grid0.coords t) _ _ _ _ _ _ _ _ _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, HS0, HS1, HS2, HS3, HS4, HS5⟩
    isplitl [HS0 HS1 HS2 HS3 HS4 HS5 Hg]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · by_cases h1 : (1 ≤ t.val % 130 ∧ t.val % 130 ≤ 128)
    · have h2 : ¬t.val % 130 = 129 := by omega
      iapply (runB c (grid0.coords t) _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexists _; iexact H6
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, HS0, HS1, HS2, HS3, HS4, HS5⟩
      isplitl [HS0 HS1 HS2 HS3 HS4 HS5 Hg]
      · isplitl [HS0 HS1 HS2 HS3 HS4 HS5]
        · isplitl [HS0]; · iexact HS0
          isplitl [HS1]; · iexact HS1
          isplitl [HS2]; · iexact HS2
          isplitl [HS3]; · iexact HS3
          isplitl [HS4]; · iexact HS4
          iexact HS5
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have h2 : t.val % 130 = 129 := by omega
      iapply (runC c (grid0.coords t) _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexists _; iexact H6
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, HS0, HS1, HS2, HS3, HS4, HS5⟩
      isplitl [HS0 HS1 HS2 HS3 HS4 HS5 Hg]
      · isplitl [HS0 HS1 HS2 HS3 HS4 HS5]
        · isplitl [HS0]; · iexact HS0
          isplitl [HS1]; · iexact HS1
          isplitl [HS2]; · iexact HS2
          isplitl [HS3]; · iexact HS3
          isplitl [HS4]; · iexact HS4
          iexact HS5
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- the launch theorem's implicit arguments are found by unifying its conclusion with this one
set_option backward.isDefEq.respectTransparency.types false in
/-- The launch: every fair execution terminates, the input arrays unchanged, every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- The frame at any values: every execution terminates, the arguments end as launched, every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      (Pipeline.RDat.FramePost.arr_in h.1 c 1 rfl).trans ((A_eq m c 1).trans (V_main_arg1 m c)),
      ((h.1 c).2 main_arg2 (Pipeline.mem_restRefs_of main_arg2 (by decide) (by decide))).trans (V_main_arg2 m c)⟩, h.2⟩)
    (run_main_quiescent m ρ)

end Cert.Proof.UpIdealFrame

end
-- ==== Proof.UpExp.lean ====
/-
  Hand-written, untrusted. The quantiser's exponent, on extended reals. The kernel finds it by eight comparisons with powers of two
  written as bit patterns (`lad`), the reference as a maximum over all powers (`RE`); the two scales and the two inverse
  scales are equal at every extended real (`KS_eq`, `KI_eq`).
-/
module

public import Idealize.ShloMosaic.Lib.Pipeline.ValueKit

@[expose] public section

set_option maxRecDepth 16384

noncomputable section

namespace Cert.Proof.UpExp

open Idealize.ShloMosaic

/-- The word `n` shifted into the exponent field, read as a float: `2 ^ (n - 127)` for `1 ≤ n ≤ 254`. -/
def pw (n : BitVec 32) : EReal := Ideal.ofBits .f32 (IntOp.shli .vector n 23#32)

/-- One comparison of the kernel's search: `b + k` where `t` is at least that power, else `b`. -/
def stp (t : EReal) (b k : BitVec 32) : BitVec 32 :=
  Scalar.select (Ideal.cmp .oge t (pw (IntOp.addi b k))) (IntOp.addi b k) b

/-- The kernel's eight comparisons. -/
def lad (t : EReal) : BitVec 32 :=
  stp t (stp t (stp t (stp t (stp t (stp t (stp t (stp t 0#32 128#32) 64#32) 32#32) 16#32) 8#32) 4#32) 2#32) 1#32

/-- The kernel's biased exponent. -/
def bia (t : EReal) : BitVec 32 := Scalar.select (Ideal.cmp .oge t (Ideal.ofBits .f32 0x7F000000#32)) 255#32 (lad t)

/-- The kernel's exponent. -/
def exo (t : EReal) : BitVec 32 :=
  Scalar.select (IntOp.ori (IntOp.cmpi .eq (bia t) 0#32) (IntOp.cmpi .eq (bia t) 255#32)) 0#32 (IntOp.subi (bia t) 126#32)

/-- The kernel's scale and its inverse. -/
def KS (t : EReal) : EReal := pw (IntOp.addi 127#32 (exo t))
def KI (t : EReal) : EReal := pw (IntOp.subi 127#32 (exo t))

/-- The reference's candidate for power number `k`. -/
def reT (t : EReal) (k : Fin 253) : EReal :=
  Scalar.select (Ideal.cmp .ole (Ideal.exp2 (((BitVec.ofNat 32 (k : ℕ)).toInt : ℝ) - Ideal.ofBits .f32 0x42FC0000#32)) t)
    (((BitVec.ofNat 32 (k : ℕ)).toInt : ℝ) - Ideal.ofBits .f32 0x42FC0000#32 + Ideal.ofBits .f32 0x3F800000#32)
    (Ideal.ofBits .f32 0xC2FC0000#32)

/-- The reference's exponent, the scale and its inverse. -/
def RE (t : EReal) : EReal :=
  Scalar.select (IntOp.ori (Ideal.cmp .olt t (Ideal.ofBits .f32 0x00800000#32)) (Ideal.cmp .oge t (Ideal.ofBits .f32 0x7F000000#32)))
    (Ideal.ofBits .f32 0x00000000#32) (Finset.univ.fold max (Ideal.ofBits .f32 0xFF800000#32) (reT t))
def RS (t : EReal) : EReal := Ideal.exp2 (RE t)
def RI (t : EReal) : EReal :=
  Scalar.select (Ideal.cmp .ogt (RE t) (Ideal.ofBits .f32 0x42FC0000#32)) (Ideal.ofBits .f32 0x00000000#32)
    (Ideal.exp2 (Ideal.ofBits .f32 0x00000000#32 - RE t))

/-- The power of two `2 ^ (n - 127)`. -/
def P (n : ℕ) : EReal := (((2 : ℝ) ^ ((n : ℤ) - 127) : ℝ) : EReal)

theorem fields : ∀ n : Fin 256, ((BitVec.ofNat 32 n <<< (23#32)).extractLsb' 31 1) = 0#1
    ∧ ((BitVec.ofNat 32 n <<< (23#32)).extractLsb' 23 8).toNat = n ∧ ((BitVec.ofNat 32 n <<< (23#32)).extractLsb' 0 23).toNat = 0 := by
  decide +kernel

theorem pw_shift (n : BitVec 32) : pw n = Ideal.ieee 8 23 (n <<< (23#32)) := rfl

theorem ieee_nat (b : BitVec 32) (n : ℕ) (h1 : 1 ≤ n) (h2 : n ≤ 254) (a : b.extractLsb' 31 1 = 0#1) (e : (b.extractLsb' 23 8).toNat = n)
    (f : (b.extractLsb' 0 23).toNat = 0) : Ideal.ieee 8 23 b = P n := by
  have i1 : ¬ n = 2 ^ 8 - 1 := by omega
  have i2 : ¬ n = 0 := by omega
  have i4 : ((0#1 : BitVec 1) == 1#1) = false := rfl
  have key : ∀ m : ℕ, (((if (false : Bool) = true then (-1 : ℝ) else 1) * ((2 ^ m + 0 : ℕ) : ℝ) * (2 : ℝ) ^ ((n : ℤ) - (2 ^ (8 - 1) - 1) - (m : ℤ)) : ℝ) : EReal)
      = (((2 : ℝ) ^ ((n : ℤ) - 127) : ℝ) : EReal) := by
    intro m
    have : ((2 ^ m + 0 : ℕ) : ℝ) = (2 : ℝ) ^ (m : ℤ) := by push_cast; simp
    rw [this, if_neg (by decide), one_mul, ← zpow_add₀ (by norm_num)]
    congr 2
    ring
  unfold Ideal.ieee P
  simp only [Nat.reduceAdd, a, e, f, i4]
  rw [if_neg i1, if_neg i2]
  exact key 23

theorem pw_nat (n : ℕ) (h1 : 1 ≤ n) (h2 : n ≤ 254) : pw (BitVec.ofNat 32 n) = P n := by
  obtain ⟨a, b, c⟩ := fields ⟨n, by omega⟩
  exact (pw_shift _).trans (ieee_nat _ n h1 h2 a b c)

theorem pw_zero : pw 0#32 = 0 := by
  rw [pw_shift, Ideal.ieee]
  simp

theorem pw_255 : pw 255#32 = ⊤ := by
  obtain ⟨a, b, c⟩ := fields ⟨255, by omega⟩
  simp only at a b c
  rw [pw_shift, Ideal.ieee]
  simp only [a, b, c]
  rw [if_pos (by norm_num), if_pos trivial, if_neg (by decide)]

theorem P_mono {a b : ℕ} (h : a ≤ b) : P a ≤ P b := by
  unfold P
  exact EReal.coe_le_coe_iff.mpr (zpow_le_zpow_right₀ (by norm_num) (by omega))

theorem c_2127 : Ideal.ofBits .f32 0x7F000000#32 = P 254 := pw_nat 254 (by omega) (by omega)
theorem c_2m126 : Ideal.ofBits .f32 0x00800000#32 = P 1 := pw_nat 1 (by omega) (by omega)
theorem c_126 : Ideal.ofBits .f32 0x42FC0000#32 = ((126 : ℝ) : EReal) := by
  simp [Ideal.ofBits, Ideal.ieee, -EReal.coe_mul]; norm_num
theorem c_m126 : Ideal.ofBits .f32 0xC2FC0000#32 = ((-126 : ℝ) : EReal) := by
  simp [Ideal.ofBits, Ideal.ieee, -EReal.coe_mul]; norm_num
theorem c_1 : Ideal.ofBits .f32 0x3F800000#32 = ((1 : ℝ) : EReal) := by
  simp [Ideal.ofBits, Ideal.ieee, -EReal.coe_mul]; norm_num
theorem c_0 : Ideal.ofBits .f32 0x00000000#32 = ((0 : ℝ) : EReal) := by
  simp [Ideal.ofBits, Ideal.ieee]
theorem c_bot : Ideal.ofBits .f32 0xFF800000#32 = ⊥ := by
  simp [Ideal.ofBits, Ideal.ieee]

theorem sel_true {α : Type} {c : BitVec 1} (h : c = 1#1) (a b : α) : Scalar.select c a b = a := if_pos h
theorem sel_false {α : Type} {c : BitVec 1} (h : c = 0#1) (a b : α) : Scalar.select c a b = b := if_neg (by rw [h]; decide)

theorem oge_iff (x y : EReal) : Ideal.cmp .oge x y = BitVec.ofBool (decide (y ≤ x)) := rfl
theorem ole_iff (x y : EReal) : Ideal.cmp .ole x y = BitVec.ofBool (decide (x ≤ y)) := rfl
theorem olt_iff (x y : EReal) : Ideal.cmp .olt x y = BitVec.ofBool (decide (x < y)) := rfl
theorem ogt_iff (x y : EReal) : Ideal.cmp .ogt x y = BitVec.ofBool (decide (y < x)) := rfl

theorem sel_dec {α : Type} (p : Prop) [Decidable p] (a b : α) : Scalar.select (BitVec.ofBool (decide p)) a b = if p then a else b := by
  by_cases h : p
  · simp [h, Scalar.select]
  · simp [h, Scalar.select]

/-- The number of powers `2 ^ (n - 127)`, `1 ≤ n ≤ 255`, that `t` is at least. -/
theorem exists_count (t : EReal) : ∃ N, N ≤ 255 ∧ ∀ n, 1 ≤ n → n ≤ 255 → (pw (BitVec.ofNat 32 n) ≤ t ↔ n ≤ N) := by
  classical
  have mono : ∀ a b, 1 ≤ a → a ≤ b → b ≤ 255 → pw (BitVec.ofNat 32 a) ≤ pw (BitVec.ofNat 32 b) := by
    intro a b h1 h2 h3
    by_cases hb : b = 255
    · rw [hb, pw_255]; exact le_top
    · rw [pw_nat a h1 (by omega), pw_nat b (by omega) (by omega)]; exact P_mono h2
  refine ⟨Nat.findGreatest (fun n => n = 0 ∨ pw (BitVec.ofNat 32 n) ≤ t) 255, Nat.findGreatest_le _, fun n h1 h2 => ⟨fun h => ?_, fun h => ?_⟩⟩
  · exact Nat.le_findGreatest h2 (.inr h)
  · have hs := Nat.findGreatest_spec (P := fun n => n = 0 ∨ pw (BitVec.ofNat 32 n) ≤ t) (n := 255) (Nat.zero_le _) (.inl rfl)
    rcases hs with hs | hs
    · omega
    · exact (mono _ _ h1 h (Nat.findGreatest_le _)).trans hs

/-- One step of the search for a number `N`. -/
def sn (N m k : ℕ) : ℕ := if m + k ≤ N then m + k else m

theorem sn_chain : ∀ N : Fin 256, sn N (sn N (sn N (sn N (sn N (sn N (sn N (sn N 0 128) 64) 32) 16) 8) 4) 2) 1 = N := by decide +kernel

theorem stp_nat (t : EReal) (N : ℕ) (hN : ∀ n, 1 ≤ n → n ≤ 255 → (pw (BitVec.ofNat 32 n) ≤ t ↔ n ≤ N)) (m k : ℕ) (hk : 1 ≤ k)
    (h : m + k ≤ 255) : stp t (BitVec.ofNat 32 m) (BitVec.ofNat 32 k) = BitVec.ofNat 32 (sn N m k) := by
  have ha : IntOp.addi (BitVec.ofNat 32 m) (BitVec.ofNat 32 k) = BitVec.ofNat 32 (m + k) := (BitVec.ofNat_add _ _).symm
  unfold stp sn
  rw [ha, oge_iff, sel_dec]
  by_cases hc : m + k ≤ N
  · rw [if_pos hc, if_pos ((hN _ (by omega) h).mpr hc)]
  · rw [if_neg hc, if_neg (fun hh => hc ((hN _ (by omega) h).mp hh))]

theorem sn_le (N m k : ℕ) : sn N m k ≤ m + k := by unfold sn; split <;> omega

/-- The eight comparisons count the powers. -/
theorem lad_nat (t : EReal) (N : ℕ) (h255 : N ≤ 255) (hN : ∀ n, 1 ≤ n → n ≤ 255 → (pw (BitVec.ofNat 32 n) ≤ t ↔ n ≤ N)) :
    lad t = BitVec.ofNat 32 N := by
  have s1 := sn_le N 0 128
  have s2 := sn_le N (sn N 0 128) 64
  have s3 := sn_le N (sn N (sn N 0 128) 64) 32
  have s4 := sn_le N (sn N (sn N (sn N 0 128) 64) 32) 16
  have s5 := sn_le N (sn N (sn N (sn N (sn N 0 128) 64) 32) 16) 8
  have s6 := sn_le N (sn N (sn N (sn N (sn N (sn N 0 128) 64) 32) 16) 8) 4
  have s7 := sn_le N (sn N (sn N (sn N (sn N (sn N (sn N 0 128) 64) 32) 16) 8) 4) 2
  unfold lad
  rw [show (0#32) = BitVec.ofNat 32 0 from rfl, stp_nat t N hN 0 128 (by omega) (by omega), stp_nat t N hN _ 64 (by omega) (by omega),
    stp_nat t N hN _ 32 (by omega) (by omega), stp_nat t N hN _ 16 (by omega) (by omega), stp_nat t N hN _ 8 (by omega) (by omega),
    stp_nat t N hN _ 4 (by omega) (by omega), stp_nat t N hN _ 2 (by omega) (by omega), stp_nat t N hN _ 1 (by omega) (by omega)]
  exact congrArg _ (sn_chain ⟨N, by omega⟩)

theorem exp2_int (z : ℤ) : Ideal.exp2 (((z : ℝ)) : EReal) = (((2 : ℝ) ^ z : ℝ) : EReal) := by
  rw [Ideal.exp2_coe]
  congr 1
  exact Real.rpow_intCast 2 z

theorem toInt_small (k : ℕ) (h : k < 253) : (BitVec.ofNat 32 k).toInt = (k : ℤ) := by
  have w : ∀ n : Fin 253, (BitVec.ofNat 32 n).toInt = ((n : ℕ) : ℤ) := by decide +kernel
  exact w ⟨k, h⟩

/-- A candidate in terms of the count. -/
theorem reT_nat (t : EReal) (N : ℕ) (hN : ∀ n, 1 ≤ n → n ≤ 255 → (pw (BitVec.ofNat 32 n) ≤ t ↔ n ≤ N)) (k : Fin 253) :
    reT t k = if (k : ℕ) + 1 ≤ N then ((((k : ℤ) - 125 : ℤ) : ℝ) : EReal) else ((-126 : ℝ) : EReal) := by
  unfold reT
  rw [ole_iff, sel_dec, c_126, c_1, c_m126, toInt_small k k.isLt, ← EReal.coe_sub, ← EReal.coe_add]
  have e : ((k : ℤ) : ℝ) - 126 = (((k : ℤ) - 126 : ℤ) : ℝ) := by push_cast; rfl
  rw [e, exp2_int]
  have hp : (((2 : ℝ) ^ ((k : ℤ) - 126) : ℝ) : EReal) = pw (BitVec.ofNat 32 (k + 1)) := by
    rw [pw_nat _ (by omega) (by have := k.isLt; omega)]
    unfold P
    congr 2
    push_cast; ring
  rw [hp]
  have hk := k.isLt
  simp only [hN (k + 1) (by omega) (by omega)]
  congr 2
  push_cast; ring

theorem fold_max (t : EReal) (N : ℕ) (h1 : 1 ≤ N) (h2 : N ≤ 253)
    (hN : ∀ n, 1 ≤ n → n ≤ 255 → (pw (BitVec.ofNat 32 n) ≤ t ↔ n ≤ N)) :
    Finset.univ.fold max (Ideal.ofBits .f32 0xFF800000#32) (reT t) = ((((N : ℤ) - 126 : ℤ) : ℝ) : EReal) := by
  rw [c_bot]
  apply le_antisymm
  · rw [Finset.fold_max_le]
    refine ⟨bot_le, fun k _ => ?_⟩
    rw [reT_nat t N hN]
    split
    · exact EReal.coe_le_coe_iff.mpr (Int.cast_le.mpr (by omega))
    · rw [show (-126 : ℝ) = ((-126 : ℤ) : ℝ) by norm_num]
      exact EReal.coe_le_coe_iff.mpr (Int.cast_le.mpr (by omega))
  · rw [Finset.le_fold_max]
    right
    refine ⟨⟨N - 1, by omega⟩, Finset.mem_univ _, ?_⟩
    rw [reT_nat t N hN, if_pos (by simp only; omega)]
    exact EReal.coe_le_coe_iff.mpr (Int.cast_le.mpr (by simp only; omega))

/-- The two sides' exponent, from the count of powers. -/
theorem both (t : EReal) : KS t = RS t ∧ KI t = RI t := by
  obtain ⟨N, h255, hN⟩ := exists_count t
  have hl := lad_nat t N h255 hN
  by_cases hbig : P 254 ≤ t
  · have hb : bia t = 255#32 := by unfold bia; rw [c_2127, oge_iff, sel_dec, if_pos hbig]
    have he : exo t = 0#32 := by unfold exo; rw [hb]; rfl
    have hR : RE t = ((0 : ℝ) : EReal) := by
      unfold RE
      rw [c_0]
      refine sel_true ?_ _ _
      rw [c_2127, oge_iff (y := P 254), decide_eq_true hbig]
      rcases (Ideal.cmp .olt t (Ideal.ofBits .f32 0x00800000#32)).eq_zero_or_eq_one with h | h <;> rw [h] <;> rfl
    have k1 : pw 127#32 = ((1 : ℝ) : EReal) := by rw [show (127#32) = BitVec.ofNat 32 127 from rfl, pw_nat 127 (by omega) (by omega)]; simp [P]
    refine ⟨?_, ?_⟩
    · unfold KS RS
      rw [he, hR, show ((0 : ℝ) : EReal) = (((0 : ℤ) : ℝ) : EReal) by simp, exp2_int]
      exact k1.trans (by simp)
    · unfold KI RI
      rw [he, hR, c_126, c_0, ogt_iff, sel_dec, if_neg (by rw [EReal.coe_lt_coe_iff]; norm_num), ← EReal.coe_sub,
        show ((0 - 0 : ℝ) : EReal) = (((0 : ℤ) : ℝ) : EReal) by simp, exp2_int]
      exact k1.trans (by simp)
  · have hN253 : N ≤ 253 := by
      by_contra hc
      exact hbig ((pw_nat 254 (by omega) (by omega)).symm ▸ (hN 254 (by omega) (by omega)).mpr (by omega))
    have hb : bia t = BitVec.ofNat 32 N := by unfold bia; rw [c_2127, oge_iff, sel_dec, if_neg hbig, hl]
    have hn1 : P 1 ≤ t ↔ 1 ≤ N := by rw [← hN 1 (by omega) (by omega), pw_nat 1 (by omega) (by omega)]
    by_cases h0 : N = 0
    · have he : exo t = 0#32 := by unfold exo; rw [hb, h0]; rfl
      have hR : RE t = ((0 : ℝ) : EReal) := by
        unfold RE
        rw [c_0]
        refine sel_true ?_ _ _
        have : t < P 1 := not_le.mp fun h => by have := hn1.mp h; omega
        rw [c_2m126, olt_iff, decide_eq_true this]
        rcases (Ideal.cmp .oge t (Ideal.ofBits .f32 0x7F000000#32)).eq_zero_or_eq_one with h | h <;> rw [h] <;> rfl
      have k1 : pw 127#32 = ((1 : ℝ) : EReal) := by rw [show (127#32) = BitVec.ofNat 32 127 from rfl, pw_nat 127 (by omega) (by omega)]; simp [P]
      refine ⟨?_, ?_⟩
      · unfold KS RS
        rw [he, hR, show ((0 : ℝ) : EReal) = (((0 : ℤ) : ℝ) : EReal) by simp, exp2_int]
        exact k1.trans (by simp)
      · unfold KI RI
        rw [he, hR, c_126, c_0, ogt_iff, sel_dec, if_neg (by rw [EReal.coe_lt_coe_iff]; norm_num), ← EReal.coe_sub,
          show ((0 - 0 : ℝ) : EReal) = (((0 : ℤ) : ℝ) : EReal) by simp, exp2_int]
        exact k1.trans (by simp)
    · have hN1 : 1 ≤ N := by omega
      have he : exo t = BitVec.ofNat 32 N - 126#32 := by
        unfold exo
        rw [hb]
        refine sel_false ?_ _ _
        have : ∀ n : Fin 254, 1 ≤ (n : ℕ) → IntOp.ori (IntOp.cmpi .eq (BitVec.ofNat 32 n) 0#32) (IntOp.cmpi .eq (BitVec.ofNat 32 n) 255#32) = 0#1 := by
          decide +kernel
        exact this ⟨N, by omega⟩ hN1
      have hR : RE t = ((((N : ℤ) - 126 : ℤ) : ℝ) : EReal) := by
        unfold RE
        rw [fold_max t N hN1 hN253 hN]
        refine sel_false ?_ _ _
        rw [c_2m126, c_2127, olt_iff, oge_iff, decide_eq_false hbig, decide_eq_false (not_lt.mpr (hn1.mpr hN1))]
        rfl
      have w : ∀ n : Fin 254, 1 ≤ (n : ℕ) → (127#32 + (BitVec.ofNat 32 n - 126#32) = BitVec.ofNat 32 (n + 1))
          ∧ (127#32 - (BitVec.ofNat 32 n - 126#32) = BitVec.ofNat 32 (253 - n)) := by decide +kernel
      obtain ⟨w1, w2⟩ := w ⟨N, by omega⟩ hN1
      simp only at w1 w2
      refine ⟨?_, ?_⟩
      · unfold KS RS
        rw [he, hR, exp2_int]
        show pw (127#32 + (BitVec.ofNat 32 N - 126#32)) = _
        rw [w1, pw_nat _ (by omega) (by omega)]
        unfold P
        congr 2
        push_cast; ring
      · unfold KI RI
        rw [he, hR, c_126, c_0, ogt_iff, sel_dec, ← EReal.coe_sub]
        show pw (127#32 - (BitVec.ofNat 32 N - 126#32)) = _
        rw [w2]
        by_cases h3 : N = 253
        · subst h3
          rw [if_pos (by rw [EReal.coe_lt_coe_iff]; norm_num)]
          exact pw_zero.trans (by simp)
        · rw [if_neg (by rw [EReal.coe_lt_coe_iff, not_lt, show (126 : ℝ) = ((126 : ℤ) : ℝ) by norm_num, Int.cast_le]; omega), pw_nat _ (by omega) (by omega),
            show (0 - (((N : ℤ) - 126 : ℤ) : ℝ)) = ((126 - (N : ℤ) : ℤ) : ℝ) by push_cast; ring, exp2_int]
          unfold P
          congr 2
          omega

/-- The kernel's scale is the reference's. -/
theorem KS_eq (t : EReal) : KS t = RS t := (both t).1
/-- The kernel's inverse scale is the reference's. -/
theorem KI_eq (t : EReal) : KI t = RI t := (both t).2

end Cert.Proof.UpExp

end
-- ==== Proof.UpVec.lean ====
/-
  Hand-written, untrusted. One row of the gate/up call, in numbers: `code`, `xcode`, `xscale`, `hrow`, `hcode`, `hscale` say what a row of
  the input gives; and what the vector operations that occur in both programs leave at an index.
-/
module

public import Idealize.ShloMosaic.Lib.Pipeline.ValueKit
public import Idealize.ShloMosaic.Lib.MatmulPlain
public import proofs.«01_k».proof.Proof.UpExp

@[expose] public section

set_option maxRecDepth 16384

noncomputable section

namespace Cert.Proof.UpVec

open Idealize.ShloMosaic
open Cert.Proof.UpExp

/-- Matrix shapes. -/
abbrev M (r k : ℕ) : Shape := ⟨2, ![r, k]⟩

/-- A row of a matrix. -/
def row {α : Type} {r k : ℕ} (v : (M r k).Idx → α) (a : Fin r) : Fin k → α := fun b => v (ix2 a b)

/-- The largest entry of a row. -/
def rmax {k : ℕ} (f : Fin k → EReal) : EReal := Finset.univ.fold max (Ideal.ofBits .f32 0xFF800000#32) f

/-- A row's largest magnitude over 448. -/
def T {k : ℕ} (f : Fin k → EReal) : EReal := rmax (fun x => max (f x) (-f x)) * Ideal.ofBits .f32 0x3B124925#32

/-- One quantised entry: times the inverse scale, clipped. -/
def code (v t : EReal) : EReal := min (Ideal.ofBits .f32 0x43E00000#32) (max (Ideal.ofBits .f32 0xC3E00000#32) (v * RI t))

/-- The codes and the scale of a row. -/
def qc {k : ℕ} (f : Fin k → EReal) (b : Fin k) : EReal := code (f b) (T f)
def qs {k : ℕ} (f : Fin k → EReal) : EReal := RS (T f)

/-- One entry of the gated product, from the row's codes and scale, the weights' columns and their scales. -/
def hent (xc : Fin 2560 → EReal) (xs : EReal) (wg wu : Fin 2560 → EReal) (sg su : EReal) : EReal :=
  (∑ k, xc k * wg k) * xs * sg * Ideal.logistic ((∑ k, xc k * wg k) * xs * sg) * ((∑ k, xc k * wu k) * xs * su)

/-- Row `x` of the input gives this row of the gated product. -/
def hrow (x : Fin 2560 → EReal) (w : (M 2560 13824).Idx → EReal) (s : (M 1 13824).Idx → EReal) (b : Fin 6912) : EReal :=
  hent (qc x) (qs x) (fun k => w (ix2 k ⟨b, by omega⟩)) (fun k => w (ix2 k ⟨6912 + b, by omega⟩))
    (s (ix2 0 ⟨b, by omega⟩)) (s (ix2 0 ⟨6912 + b, by omega⟩))

/-- The four results of the gate/up call, from the input as a matrix, the weights and their column scales. -/
def XC (X : (M 32768 2560).Idx → EReal) : (M 32768 2560).Idx → EReal := fun i => qc (row X (i 0)) (i 1)
def rowOf (i : (⟨3, ![128, 2, 128]⟩ : Shape).Idx) : Fin 32768 :=
  ⟨(i 0 : ℕ) * 256 + i 1 * 128 + i 2, by
    have h0 : (i 0 : ℕ) < 128 := (i 0).isLt
    have h1 : (i 1 : ℕ) < 2 := (i 1).isLt
    have h2 : (i 2 : ℕ) < 128 := (i 2).isLt
    omega⟩
def XS (X : (M 32768 2560).Idx → EReal) : (⟨3, ![128, 2, 128]⟩ : Shape).Idx → EReal := fun i => qs (row X (rowOf i))
def HC (X : (M 32768 2560).Idx → EReal) (w : (M 2560 13824).Idx → EReal) (s : (M 1 13824).Idx → EReal) : (M 32768 6912).Idx → EReal :=
  fun i => qc (hrow (row X (i 0)) w s) (i 1)
def HS (X : (M 32768 2560).Idx → EReal) (w : (M 2560 13824).Idx → EReal) (s : (M 1 13824).Idx → EReal) :
    (⟨3, ![128, 2, 128]⟩ : Shape).Idx → EReal := fun i => qs (hrow (row X (rowOf i)) w s)

section Ops
variable {r k : ℕ}

/-- A row maximum kept as a column. -/
theorem colmax_at (v : FVec Ideal (M r k) .f32) (h : (M r k).Reduces [1] ⟨1, ![r]⟩) (h1) (h2)
    (hs : (⟨1, ![r]⟩ : Shape).ShapeCasts (M r 1)) (i : (M r 1).Idx) :
    shapeCast (M r 1) (multiReduction .maximumf [1] ⟨1, ![r]⟩ v 0xFF800000#32 h h1 h2) hs i = rmax (row v (i 0)) := by
  refine (shapeCast_apply _ _ i (ix1 (i 0)) ?_).trans ?_
  · rw [Shape.rowMajor_val_one, Shape.rowMajor_val_two]
    have : (i 1 : ℕ) < 1 := (i 1).isLt
    show (i 0 : ℕ) = (i 0 : ℕ) * 1 + (i 1 : ℕ)
    omega
  · pointwise
    rfl

/-- A column spread over the columns of a matrix. -/
theorem spread_at {α : Type} (v : (M r 1).Idx → α) (h : (M r 1).Broadcasts (M r k)) (i : (M r k).Idx) :
    broadcastTo (M r k) v h i = v (ix2 (i 0) 0) := by
  refine broadcastTo_apply v h i _ fun a => ?_
  match a with
  | ⟨0, _⟩ =>
    show (i 0 : ℕ) = if r = 1 then 0 else (i 0 : ℕ)
    split
    · have : (i 0 : ℕ) < r := (i 0).isLt
      omega
    · rfl
  | ⟨1, _⟩ => rfl

/-- A row spread over the rows of a matrix. -/
theorem spreadRow_at {α : Type} (v : (M 1 k).Idx → α) (h : (M 1 k).Broadcasts (M r k)) (i : (M r k).Idx) :
    broadcastTo (M r k) v h i = v (ix2 0 (i 1)) := by
  refine broadcastTo_apply v h i _ fun a => ?_
  match a with
  | ⟨0, _⟩ => rfl
  | ⟨1, _⟩ =>
    show (i 1 : ℕ) = if k = 1 then 0 else (i 1 : ℕ)
    split
    · have : (i 1 : ℕ) < k := (i 1).isLt
      omega
    · rfl

/-- The reference's exponents of a column of thresholds. -/
def refE (t : FVec Ideal (M r 1) .f32) (hI : (M 1 253).Iotas .tc 32 [1]) (hb : (M 1 253).Broadcasts (M r 253))
    (hc : (M r 1).Broadcasts (M r 253)) (hs : (M 1 253).ShapeCasts (M 1 253)) (hR : (M r 253).Reduces [1] ⟨1, ![r]⟩)
    (h1 : FKind.Formats .f32) (h2 : 0xFF800000#32 = FKind.maximumf.neutral .f32 h1)
    (hs' : (⟨1, ![r]⟩ : Shape).ShapeCasts (M r 1)) : FVec Ideal (M r 1) .f32 :=
  select (ori (cmpf .olt t (broadcast (M r 1) (Scalar.ofBits (F := Ideal) .f32 0x00800000#32))) (cmpf .oge t (broadcast (M r 1) (Scalar.ofBits (F := Ideal) .f32 0x7F000000#32))))
    (broadcast (M r 1) (Scalar.ofBits (F := Ideal) .f32 0x00000000#32))
    (shapeCast (M r 1) (multiReduction .maximumf [1] ⟨1, ![r]⟩
      (select (cmpf .ole (broadcastTo (M r 253) (exp2 (subf (sitofp .f32 (iota .tc (M 1 253) 32 [1] hI)) (broadcast (M 1 253) (Scalar.ofBits (F := Ideal) .f32 0x42FC0000#32)))) hb)
          (broadcastTo (M r 253) t hc))
        (broadcastTo (M r 253) (shapeCast (M 1 253) (addf (subf (sitofp .f32 (iota .tc (M 1 253) 32 [1] hI)) (broadcast (M 1 253) (Scalar.ofBits (F := Ideal) .f32 0x42FC0000#32)))
          (broadcast (M 1 253) (Scalar.ofBits (F := Ideal) .f32 0x3F800000#32))) hs) hb)
        (broadcast (M r 253) (Scalar.ofBits (F := Ideal) .f32 0xC2FC0000#32)))
      0xFF800000#32 hR h1 h2) hs')

theorem refE_at (t : FVec Ideal (M r 1) .f32) (hI) (hb) (hc) (hs) (hR) (h1) (h2) (hs') (i : (M r 1).Idx) :
    refE t hI hb hc hs hR h1 h2 hs' i = RE (t i) := by
  have hi : ∀ a : Fin r, (i 0) = a → t (ix2 a 0) = t i := by
    intro a ha
    subst ha
    refine congrArg t (funext fun b => Fin.ext ?_)
    match b with
    | ⟨0, _⟩ => rfl
    | ⟨1, _⟩ =>
      have : (i 1 : ℕ) < 1 := (i 1).isLt
      show 0 = (i 1 : ℕ)
      omega
  have hm : shapeCast (M r 1) (multiReduction .maximumf [1] ⟨1, ![r]⟩
      (select (cmpf .ole (broadcastTo (M r 253) (exp2 (subf (sitofp .f32 (iota .tc (M 1 253) 32 [1] hI)) (broadcast (M 1 253) (Scalar.ofBits (F := Ideal) .f32 0x42FC0000#32)))) hb)
          (broadcastTo (M r 253) t hc))
        (broadcastTo (M r 253) (shapeCast (M 1 253) (addf (subf (sitofp .f32 (iota .tc (M 1 253) 32 [1] hI)) (broadcast (M 1 253) (Scalar.ofBits (F := Ideal) .f32 0x42FC0000#32)))
          (broadcast (M 1 253) (Scalar.ofBits (F := Ideal) .f32 0x3F800000#32))) hs) hb)
        (broadcast (M r 253) (Scalar.ofBits (F := Ideal) .f32 0xC2FC0000#32)))
      0xFF800000#32 hR h1 h2) hs' i = Finset.univ.fold max (Ideal.ofBits .f32 0xFF800000#32) (reT (t i)) := by
    rw [colmax_at]
    unfold rmax
    refine congrArg (fun f => Finset.fold max (Ideal.ofBits .f32 0xFF800000#32) f Finset.univ) (funext fun b => ?_)
    rw [shapeCast_self]
    show Scalar.select (Ideal.cmp .ole (broadcastTo (M r 253) _ hb (ix2 (i 0) b)) (broadcastTo (M r 253) t hc (ix2 (i 0) b)))
      (broadcastTo (M r 253) _ hb (ix2 (i 0) b)) _ = _
    have e1 : broadcastTo (M r 253) t hc (ix2 (i 0) b) = t i := (spread_at t hc _).trans (hi _ rfl)
    have e2 : ∀ v : FVec Ideal (M 1 253) .f32, broadcastTo (M r 253) v hb (ix2 (i 0) b) = v (ix2 0 b) := fun v => spreadRow_at v hb _
    rw [e1, e2, e2]
    unfold reT
    rw [show BitVec.ofNat 32 (b : ℕ) = iota .tc (M 1 253) 32 [1] hI (ix2 0 b) from (iota_single_apply _ _ _ _ hI (ix2 0 b)).symm]
    rfl
  unfold refE
  show Scalar.select _ _ (shapeCast (M r 1) _ hs' i) = _
  rw [hm]
  rfl

/-- A product into zero at an index. -/
theorem mm_at {a b c : ℕ} {φ₁ φ₂ : FTy} (prec) (l : FVec Ideal (M a b) φ₁) (w : FVec Ideal (M b c) φ₂) (i : (M a c).Idx) :
    matmul (DotDims.plain a b c) prec l w (constant (M a c) .f32 0x00000000#32) i = ∑ x, l (ix2 (i 0) x) * w (ix2 x (i 1)) := by
  have e : i = ix2 (i 0) (i 1) := by
    refine funext fun b => Fin.ext ?_
    match b with
    | ⟨0, _⟩ => rfl
    | ⟨1, _⟩ => rfl
  conv_lhs => rw [e]
  refine (Ideal.matmul_plain_apply prec l w _ (i 0) (i 1)).trans ?_
  refine (congrArg (· + _) (Ideal.ofBits_zero_f32 : _ = (0 : EReal))).trans (zero_add _)

/-- The thresholds of the rows of a matrix. -/
def thr (v : FVec Ideal (M r k) .f32) (h : (M r k).Reduces [1] ⟨1, ![r]⟩) (h1 : FKind.Formats .f32)
    (h2 : 0xFF800000#32 = FKind.maximumf.neutral .f32 h1) (hs : (⟨1, ![r]⟩ : Shape).ShapeCasts (M r 1)) : FVec Ideal (M r 1) .f32 :=
  mulf (shapeCast (M r 1) (multiReduction .maximumf [1] ⟨1, ![r]⟩ (absf v) 0xFF800000#32 h h1 h2) hs)
    (broadcast (M r 1) (Scalar.ofBits (F := Ideal) .f32 0x3B124925#32))

theorem thr_at (v : FVec Ideal (M r k) .f32) (h) (h1) (h2) (hs) (i : (M r 1).Idx) : thr v h h1 h2 hs i = T (row v (i 0)) := by
  show shapeCast (M r 1) (multiReduction .maximumf [1] ⟨1, ![r]⟩ (absf v) 0xFF800000#32 h h1 h2) hs i * Ideal.ofBits .f32 0x3B124925#32 = _
  rw [colmax_at]
  rfl

theorem exp2_at {s : Shape} (v : FVec Ideal s .f32) (i : s.Idx) (t : EReal) (h : v i = t) : exp2 v i = Ideal.exp2 t := by
  subst h; rfl

/-- The reference's codes from a matrix and its rows' exponents. -/
def refQ (v : FVec Ideal (M r k) .f32) (e : FVec Ideal (M r 1) .f32) (hb : (M r 1).Broadcasts (M r k)) (hl : FTy.fp8e4m3.bits < FTy.f32.bits) :
    FVec Ideal (M r k) .fp8e4m3 :=
  truncf .fp8e4m3 (minimumf (broadcast (M r k) (Scalar.ofBits (F := Ideal) .f32 0x43E00000#32)) (maximumf (broadcast (M r k) (Scalar.ofBits (F := Ideal) .f32 0xC3E00000#32))
    (mulf v (broadcastTo (M r k) (select (cmpf .ogt e (broadcast (M r 1) (Scalar.ofBits (F := Ideal) .f32 0x42FC0000#32)))
      (broadcast (M r 1) (Scalar.ofBits (F := Ideal) .f32 0x00000000#32))
      (exp2 (subf (broadcast (M r 1) (Scalar.ofBits (F := Ideal) .f32 0x00000000#32)) e))) hb)))) hl

theorem refQ_at (v : FVec Ideal (M r k) .f32) (e : FVec Ideal (M r 1) .f32) (hb) (hl) (i : (M r k).Idx) (t : EReal)
    (he : e (ix2 (i 0) 0) = RE t) : refQ v e hb hl i = code (v i) t := by
  show min _ (max _ (v i * broadcastTo (M r k) _ hb i)) = _
  rw [spread_at]
  show min _ (max _ (v i * Scalar.select (Ideal.cmp .ogt (e (ix2 (i 0) 0)) _) _ (Ideal.exp2 (_ - e (ix2 (i 0) 0))))) = _
  rw [he]
  rfl

/-- The reference's scaled products. -/
def refG (xc : FVec Ideal (M r 2560) .fp8e4m3) (xs : FVec Ideal (M r 1) .f32) (w : FVec Ideal (M 2560 13824) .fp8e4m3)
    (s : FVec Ideal (M 1 13824) .f32) (hb : (M r 1).Broadcasts (M r 13824)) (hc : (M 1 13824).ShapeCasts (M 1 13824))
    (hr : (M 1 13824).Broadcasts (M r 13824)) : FVec Ideal (M r 13824) .f32 :=
  mulf (mulf (matmul (DotDims.plain r 2560 13824) none xc w (constant (M r 13824) .f32 0x00000000#32)) (broadcastTo (M r 13824) xs hb))
    (broadcastTo (M r 13824) (shapeCast (M 1 13824) s hc) hr)

theorem refG_at (xc : FVec Ideal (M r 2560) .fp8e4m3) (xs : FVec Ideal (M r 1) .f32) (w : FVec Ideal (M 2560 13824) .fp8e4m3)
    (s : FVec Ideal (M 1 13824) .f32) (hb) (hc) (hr) (a : Fin r) (b : Fin 13824) :
    refG xc xs w s hb hc hr (ix2 a b) = (∑ x, xc (ix2 a x) * w (ix2 x b)) * xs (ix2 a 0) * s (ix2 0 b) := by
  have e1 : broadcastTo (M r 13824) xs hb (ix2 a b) = xs (ix2 a 0) := spread_at xs hb _
  have e2 : broadcastTo (M r 13824) (shapeCast (M 1 13824) s hc) hr (ix2 a b) = s (ix2 0 b) := by
    rw [shapeCast_self]; exact spreadRow_at s hr _
  have e3 := mm_at none xc w (ix2 a b : (M r 13824).Idx)
  show matmul (DotDims.plain r 2560 13824) none xc w (constant (M r 13824) .f32 0x00000000#32) (ix2 a b) * broadcastTo (M r 13824) xs hb (ix2 a b)
    * broadcastTo (M r 13824) (shapeCast (M 1 13824) s hc) hr (ix2 a b) = _
  rw [e1, e2, e3]
  rfl

/-- The reference's gated product. -/
def refH (g : FVec Ideal (M r 13824) .f32) (h0 : (M r 13824).Slices ![0, 0] (M r 6912)) (h1 : (M r 13824).Slices ![0, 6912] (M r 6912)) :
    FVec Ideal (M r 6912) .f32 :=
  mulf (mulf (extractStridedSlice (M r 6912) ![0, 0] g h0) (logistic (extractStridedSlice (M r 6912) ![0, 0] g h0)))
    (extractStridedSlice (M r 6912) ![0, 6912] g h1)

theorem slice_at {n q o : ℕ} (g : FVec Ideal (M r n) .f32) (h : (M r n).Slices ![0, o] (M r q)) (a : Fin r) (b : Fin q) (hb : o + b < n) :
    extractStridedSlice (M r q) ![0, o] g h (ix2 a b) = g (ix2 a ⟨o + b, hb⟩) := by
  refine extractStridedSlice_apply _ _ h _ _ fun c => ?_
  match c with
  | ⟨0, _⟩ => exact (Nat.zero_add _).symm
  | ⟨1, _⟩ => rfl

theorem refH_at (g : FVec Ideal (M r 13824) .f32) (h0) (h1) (a : Fin r) (b : Fin 6912) :
    refH g h0 h1 (ix2 a b) = g (ix2 a ⟨b, by omega⟩) * Ideal.logistic (g (ix2 a ⟨b, by omega⟩)) * g (ix2 a ⟨6912 + b, by omega⟩) := by
  have e0 := slice_at g h0 a b (by omega)
  have e1 := slice_at g h1 a b (by omega)
  rw [show (⟨0 + (b : ℕ), by omega⟩ : Fin 13824) = ⟨b, by omega⟩ from Fin.ext (Nat.zero_add _)] at e0
  show extractStridedSlice (M r 6912) ![0, 0] g h0 (ix2 a b) * Ideal.logistic (extractStridedSlice (M r 6912) ![0, 0] g h0 (ix2 a b))
    * extractStridedSlice (M r 6912) ![0, 6912] g h1 (ix2 a b) = _
  rw [e0, e1]

/-- The gated product of a matrix's codes and scales is that of its rows. -/
theorem refH_row (xc : FVec Ideal (M r 2560) .fp8e4m3) (xs : FVec Ideal (M r 1) .f32) (w : FVec Ideal (M 2560 13824) .fp8e4m3)
    (s : FVec Ideal (M 1 13824) .f32) (hb) (hc) (hr) (h0) (h1) (a : Fin r) (b : Fin 6912) (x : Fin 2560 → EReal)
    (hxc : ∀ k, xc (ix2 a k) = qc x k) (hxs : xs (ix2 a 0) = qs x) :
    refH (refG xc xs w s hb hc hr) h0 h1 (ix2 a b) = hrow x w s b := by
  rw [refH_at, refG_at, refG_at, hxs]
  unfold hrow hent
  simp only [hxc]

end Ops

end Cert.Proof.UpVec

end
-- ==== Proof.UpBlk.lean ====
/-
  Hand-written, untrusted. The vector functions of one grid step of the gate/up kernel, each as one function of what the step loads, and what
  each leaves at an index: `chS`, `chQ` quantise 32 rows of the input, `lan` turns a column of scales into lanes, `hin`, `hsc` are the inverse
  scales and the scales of the gated product from its running maxima, `hqt` is one tile of its codes, `hnt` one tile of it, `amt` its maxima.
-/
module

public import proofs.«01_k».proof.Proof.UpVec
public import proofs.«01_k».proof.Proof.Gen.UpIdeal.Skeleton

@[expose] public section

set_option maxRecDepth 16384

noncomputable section

namespace Cert.Proof.UpBlk

open Cert.UpIdeal Cert.UpIdeal.Gen
open Idealize.ShloMosaic
open Cert.Proof.UpVec Cert.Proof.UpExp

/-- The scales of 32 rows, repeated over the lanes. -/
def chS (v : Vec Ideal S32x2560 .bf16) : FVec Ideal S32x128 .f32 :=
  k0_pay15 (k0_pay12 (k0_pay8 v) (k0_pay9 v) (k0_pay10 v) k0_pay11) (k0_pay13 (k0_pay8 v) (k0_pay9 v) (k0_pay10 v) k0_pay11) 255#32
/-- The codes of 32 rows. -/
def chQ (v : Vec Ideal S32x2560 .bf16) : FVec Ideal S32x2560 .fp8e4m3 :=
  k0_pay16 (k0_pay7 v) (k0_pay12 (k0_pay8 v) (k0_pay9 v) (k0_pay10 v) k0_pay11) (k0_pay13 (k0_pay8 v) (k0_pay9 v) (k0_pay10 v) k0_pay11) 255#32
/-- Lane `l` of half `b` of the result is entry `(128 b + l, l)`. -/
def lan (v : FVec Ideal S256x128 .f32) : FVec Ideal S1x2x128 .f32 := k0_pay93 (k0_pay91 v) k0_pay92
/-- The biased exponents of the gated product's scales from its running maxima. -/
def hbi (v : Vec Ideal S256x128 .f32) : IVec S256x128 32 := k0_pay101 (k0_pay97 v) (k0_pay98 v) (k0_pay99 v) (k0_pay100 v)
def hze (v : Vec Ideal S256x128 .f32) : IVec S256x128 1 := k0_pay102 (k0_pay97 v) (k0_pay98 v) (k0_pay99 v) (k0_pay100 v)
/-- The inverse scales. -/
def hin (v : Vec Ideal S256x128 .f32) : FVec Ideal S256x128 .f32 := k0_pay105 (hbi v) (hze v) k0_pay103
/-- The scales as lanes. -/
def hla (v : Vec Ideal S256x128 .f32) : FVec Ideal S1x2x128 .f32 := k0_pay106 (hbi v) (hze v) k0_pay103
/-- A tile of codes. -/
def hqt (n : Vec Ideal S256x128 .f32) (v : Vec Ideal S256x256 .f32) : FVec Ideal S256x256 .fp8e4m3 := k0_pay109 (k0_pay107 n v) k0_pay108
/-- A tile of the gated product. -/
def hnt (s : Vec Ideal S256x128 .f32) (q : Vec Ideal S256x2560 .fp8e4m3) (wg wu : Vec Ideal S2560x256 .fp8e4m3) (sg su : Vec Ideal S1x256 .f32) :
    FVec Ideal S256x256 .f32 := k0_pay110 s q wg q wu sg su
/-- The lanes' maxima of a tile. -/
def am0 (h : FVec Ideal S256x256 .f32) : FVec Ideal S256x128 .f32 :=
  maximumf (extractStridedSlice S256x128 ![0, 0] (absf h) slices_S256x256_o0_0_S256x128)
    (extractStridedSlice S256x128 ![0, 128] (absf h) slices_S256x256_o0_128_S256x128)

theorem pay7_eq (v : Vec Ideal S32x2560 .bf16) : k0_pay7 v = v := shapeCast_self _ _

theorem pay8_at (v : Vec Ideal S32x2560 .bf16) (i : S32x1.Idx) : k0_pay8 v i = T (row v (i 0)) := by
  refine (thr_at (k0_pay7 v) reduces_S32x2560_S32 (.inl rfl) rfl shapeCasts_S32_S32x1 i).trans ?_
  rw [pay7_eq]

section Ladder
variable {σ : Shape}

/-- One comparison of the search, for a vector of thresholds. -/
def stpV (t : FVec Ideal σ .f32) (b : IVec σ 32) (k : BitVec 32) : IVec σ 32 :=
  select (cmpf .oge t (bitcastToFloat .f32 (shli (addi b (broadcast σ k)) (broadcast σ 23#32)))) (addi b (broadcast σ k)) b
def hiV (t : FVec Ideal σ .f32) : IVec σ 32 := stpV t (stpV t (stpV t (broadcast σ 0#32) 128#32) 64#32) 32#32
def loV (t : FVec Ideal σ .f32) (b : IVec σ 32) : IVec σ 32 := stpV t (stpV t (stpV t (stpV t (stpV t b 16#32) 8#32) 4#32) 2#32) 1#32
def biaV (t : FVec Ideal σ .f32) : IVec σ 32 :=
  select (cmpf .oge t (broadcast σ (Scalar.ofBits (F := Ideal) .f32 0x7F000000#32))) (broadcast σ 255#32) (loV t (hiV t))
def exoV (b : IVec σ 32) : IVec σ 32 :=
  select (ori (cmpi .eq b (broadcast σ 0#32)) (cmpi .eq b (broadcast σ 255#32))) (broadcast σ 0#32) (subi b (broadcast σ 126#32))

theorem stpV_at (t : FVec Ideal σ .f32) (b : IVec σ 32) (k : BitVec 32) (i : σ.Idx) : stpV t b k i = stp (t i) (b i) k := rfl

theorem biaV_at (t : FVec Ideal σ .f32) (i : σ.Idx) : biaV t i = bia (t i) := by
  show Scalar.select (Ideal.cmp .oge (t i) _) 255#32 (loV t (hiV t) i) = Scalar.select _ _ _
  have e : loV t (hiV t) i = lad (t i) := by
    unfold loV hiV lad
    simp only [stpV_at]
    rfl
  rw [e]
  rfl

theorem exoV_at (t : FVec Ideal σ .f32) (i : σ.Idx) : exoV (biaV t) i = exo (t i) := by
  show Scalar.select (IntOp.ori (IntOp.cmpi .eq (biaV t i) 0#32) (IntOp.cmpi .eq (biaV t i) 255#32)) 0#32 (IntOp.subi (biaV t i) 126#32) = _
  rw [biaV_at]
  rfl

end Ladder

theorem ch_bia (v : Vec Ideal S32x2560 .bf16) :
    k0_pay12 (k0_pay8 v) (k0_pay9 v) (k0_pay10 v) k0_pay11 = biaV (k0_pay8 v) := by
  have e9 : k0_pay9 v = hiV (k0_pay8 v) := rfl
  unfold k0_pay10
  rw [e9]
  rfl

theorem ch_exo (v : Vec Ideal S32x2560 .bf16) :
    k0_pay14 (k0_pay12 (k0_pay8 v) (k0_pay9 v) (k0_pay10 v) k0_pay11) (k0_pay13 (k0_pay8 v) (k0_pay9 v) (k0_pay10 v) k0_pay11) 255#32
      = exoV (biaV (k0_pay8 v)) := by
  unfold k0_pay13
  rw [ch_bia]
  rfl

/-- The scale of a row of the chunk. -/
theorem chS_at (v : Vec Ideal S32x2560 .bf16) (i : S32x128.Idx) : chS v i = qs (row v (i 0)) := by
  unfold chS k0_pay15
  rw [ch_exo]
  refine (congrFun (shapeCast_self _ _) i).trans ?_
  refine (spread_at _ _ i).trans ?_
  refine (congrFun (shapeCast_self _ _) _).trans ?_
  refine (congrArg (fun b => pw (IntOp.addi 127#32 b)) (exoV_at _ _)).trans ?_
  refine (KS_eq _).trans ?_
  rw [pay8_at]
  rfl

/-- The code of an entry of the chunk. -/
theorem chQ_at (v : Vec Ideal S32x2560 .bf16) (i : S32x2560.Idx) : chQ v i = qc (row v (i 0)) (i 1) := by
  unfold chQ k0_pay16
  rw [ch_exo, pay7_eq]
  have e : (broadcastTo S32x2560 (bitcastToFloat (F := Ideal) .f32 (shli (subi (broadcast S32x1 127#32) (exoV (biaV (k0_pay8 v)))) (broadcast S32x1 23#32)))
      broadcasts_S32x1_S32x2560 : FVec Ideal S32x2560 .f32) i = RI (T (row v (i 0))) := by
    refine (spread_at _ _ i).trans ?_
    refine (congrArg (fun b => pw (IntOp.subi 127#32 b)) (exoV_at _ _)).trans ?_
    refine (KI_eq _).trans ?_
    rw [pay8_at]
    rfl
  have hi : i = ix2 (i 0) (i 1) := by
    refine funext fun b => Fin.ext ?_
    match b with
    | ⟨0, _⟩ => rfl
    | ⟨1, _⟩ => rfl
  show min _ (max _ (v i * broadcastTo S32x2560 _ broadcasts_S32x1_S32x2560 i)) = _
  rw [e]
  conv_lhs => rw [hi]
  rfl

/-- The thresholds from the maxima of the lanes, repeated over the lanes. -/
def hthr {r k : ℕ} (v : FVec Ideal (M r k) .f32) (h : (M r k).Reduces [1] ⟨1, ![r]⟩) (h1 : FKind.Formats .f32)
    (h2 : 0xFF800000#32 = FKind.maximumf.neutral .f32 h1) (hs : (⟨1, ![r]⟩ : Shape).ShapeCasts (M r 1)) (hs' : (M r 1).ShapeCasts (M r 1))
    (hb : (M r 1).Broadcasts (M r k)) : FVec Ideal (M r k) .f32 :=
  mulf (broadcastTo (M r k) (shapeCast (M r 1) (shapeCast (M r 1) (multiReduction .maximumf [1] ⟨1, ![r]⟩ v 0xFF800000#32 h h1 h2) hs) hs') hb)
    (broadcast (M r k) (Scalar.ofBits (F := Ideal) .f32 0x3B124925#32))

theorem hthr_at' {r k : ℕ} (v : FVec Ideal (M r k) .f32) (h) (h1) (h2) (hs) (hs') (hb) (i : (M r k).Idx) :
    hthr v h h1 h2 hs hs' hb i = rmax (row v (i 0)) * Ideal.ofBits .f32 0x3B124925#32 := by
  have e := spread_at (shapeCast (M r 1) (shapeCast (M r 1) (multiReduction .maximumf [1] ⟨1, ![r]⟩ v 0xFF800000#32 h h1 h2) hs) hs') hb i
  rw [shapeCast_self, colmax_at] at e
  show broadcastTo (M r k) (shapeCast (M r 1) (shapeCast (M r 1) (multiReduction .maximumf [1] ⟨1, ![r]⟩ v 0xFF800000#32 h h1 h2) hs) hs') hb i * _ = _
  rw [shapeCast_self, e]
  rfl

section Gated
variable (v : Vec Ideal S256x128 .f32)

theorem hthr_at (i : S256x128.Idx) : k0_pay97 v i = rmax (row v (i 0)) * Ideal.ofBits .f32 0x3B124925#32 := by
  have e : k0_pay97 v = hthr v reduces_S256x128_S256 (.inl rfl) rfl shapeCasts_S256_S256x1 shapeCasts_S256x1_S256x1 broadcasts_S256x1_S256x128 := rfl
  exact (congrFun e i).trans (hthr_at' _ _ _ _ _ _ _ i)

theorem h_bia : hbi v = biaV (k0_pay97 v) := by
  have e9 : k0_pay98 v = hiV (k0_pay97 v) := rfl
  unfold hbi k0_pay99 k0_pay100
  rw [e9]
  rfl

theorem h_exo : k0_pay104 (hbi v) (hze v) k0_pay103 = exoV (biaV (k0_pay97 v)) := by
  have e : hze v = cmpi .eq (hbi v) (broadcast S256x128 0#32) := rfl
  rw [e, h_bia]
  rfl

theorem hin_at (i : S256x128.Idx) (t : EReal) (h : rmax (row v (i 0)) * Ideal.ofBits .f32 0x3B124925#32 = t) : hin v i = RI t := by
  unfold hin k0_pay105
  rw [h_exo]
  refine (congrFun (shapeCast_self _ _) i).trans ?_
  refine (congrArg (fun b => pw (IntOp.subi 127#32 b)) (exoV_at _ _)).trans ?_
  refine (KI_eq _).trans ?_
  rw [hthr_at, h]

/-- The scales, before they are lanes. -/
def hsc : FVec Ideal S256x128 .f32 :=
  bitcastToFloat .f32 (shli (addi (broadcast S256x128 127#32) (k0_pay104 (hbi v) (hze v) k0_pay103)) (broadcast S256x128 23#32))

theorem hsc_at (i : S256x128.Idx) (t : EReal) (h : rmax (row v (i 0)) * Ideal.ofBits .f32 0x3B124925#32 = t) : hsc v i = RS t := by
  unfold hsc
  rw [h_exo]
  refine (congrArg (fun b => pw (IntOp.addi 127#32 b)) (exoV_at _ _)).trans ?_
  refine (KS_eq _).trans ?_
  rw [hthr_at, h]

theorem hla_eq : hla v = lan (hsc v) := rfl

end Gated

/-- Which row of the block a lane of a half is. -/
def lrow (i : S1x2x128.Idx) : Fin 256 :=
  ⟨(i 1 : ℕ) * 128 + i 2, by
    have h1 : (i 1 : ℕ) < 2 := (i 1).isLt
    have h2 : (i 2 : ℕ) < 128 := (i 2).isLt
    omega⟩

theorem dg_at (k l : Fin 128) : (cmpi .eq (iota .tc S128x128 32 [0] iota_S128x128_d0_w32) (iota .tc S128x128 32 [1] iota_S128x128_d1_w32) : IVec S128x128 1) (ix2 k l)
    = if (k : ℕ) = (l : ℕ) then 1#1 else 0#1 := by
  show IntOp.cmpi .eq _ _ = _
  rw [iota_single_apply, iota_single_apply]
  show IntOp.cmpi .eq (BitVec.ofNat 32 (k : ℕ)) (BitVec.ofNat 32 (l : ℕ)) = _
  by_cases h : (k : ℕ) = (l : ℕ)
  · rw [if_pos h, h]
    simp [IntOp.cmpi]
  · rw [if_neg h]
    have hk := k.isLt
    have hl := l.isLt
    have : (k : ℕ) ≠ l := h
    have h' : ¬ BitVec.ofNat 32 (k : ℕ) = BitVec.ofNat 32 (l : ℕ) := fun e => this (by
      have := congrArg BitVec.toNat e
      simp only [BitVec.toNat_ofNat] at this
      omega)
    show BitVec.ofBool (BitVec.ofNat 32 (k : ℕ) == BitVec.ofNat 32 (l : ℕ)) = 0#1
    rw [show (BitVec.ofNat 32 (k : ℕ) == BitVec.ofNat 32 (l : ℕ)) = false from beq_eq_false_iff_ne.mpr h']
    rfl

theorem lan_at (v : FVec Ideal S256x128 .f32) (f : Fin 256 → EReal) (h : ∀ i, v i = f (i 0)) (i : S1x2x128.Idx) : lan v i = f (lrow i) := by
  unfold lan k0_pay93
  refine (shapeCast_apply _ _ i (ix2 (i 1) (i 2)) ?_).trans ?_
  · rw [Shape.rowMajor_val_three, Shape.rowMajor_val_two]
    have : (i 0 : ℕ) < 1 := (i 0).isLt
    show (i 1 : ℕ) * 128 + (i 2 : ℕ) = ((i 0 : ℕ) * 2 + (i 1 : ℕ)) * 128 + (i 2 : ℕ)
    omega
  · pointwise
    have hm : ∀ x : Fin 128, k0_pay92 (ix3 0 x (i 2)) = if (x : ℕ) = (i 2 : ℕ) then 1#1 else 0#1 := fun x => by
      unfold k0_pay92
      refine (shapeCast_apply _ _ _ (ix2 x (i 2)) ?_).trans (dg_at x (i 2))
      rw [Shape.rowMajor_val_three, Shape.rowMajor_val_two]
      show (x : ℕ) * 128 + (i 2 : ℕ) = ((0 : ℕ) * 128 + (x : ℕ)) * 128 + (i 2 : ℕ)
      omega
    have hv : ∀ x : Fin 128, (k0_pay91 v : FVec Ideal S2x128x128 .f32) (ix3 (i 1) x (i 2)) = f ⟨(i 1 : ℕ) * 128 + x, by have h1 : (i 1 : ℕ) < 2 := (i 1).isLt; omega⟩ := fun x => by
      unfold k0_pay91
      refine (shapeCast_apply _ _ _ (ix2 ⟨(i 1 : ℕ) * 128 + x, by have h1 : (i 1 : ℕ) < 2 := (i 1).isLt; omega⟩ (i 2)) ?_).trans (h _)
      rw [Shape.rowMajor_val_three, Shape.rowMajor_val_two]
      rfl
    refine (Finset.sum_eq_single (i 2) (fun x _ hx => ?_) (fun hx => absurd (Finset.mem_univ _) hx)).trans ?_
    · refine (congrArg (fun b => Scalar.select b _ _) ((hm x).trans (if_neg fun e => hx (Fin.ext e)))).trans ?_
      rfl
    · refine (congrArg (fun b => Scalar.select b _ _) ((hm (i 2)).trans (if_pos rfl))).trans ?_
      exact hv _

theorem am0_at (h : FVec Ideal S256x256 .f32) (a : Fin 256) (b : Fin 128) :
    am0 h (ix2 a b) = max (max (h (ix2 a ⟨b, by omega⟩)) (-h (ix2 a ⟨b, by omega⟩))) (max (h (ix2 a ⟨128 + b, by omega⟩)) (-h (ix2 a ⟨128 + b, by omega⟩))) := by
  have e0 := slice_at (r := 256) (absf h) slices_S256x256_o0_0_S256x128 a b (by omega)
  have e1 := slice_at (r := 256) (absf h) slices_S256x256_o0_128_S256x128 a b (by omega)
  rw [show (⟨0 + (b : ℕ), by omega⟩ : Fin 256) = ⟨b, by omega⟩ from Fin.ext (Nat.zero_add _)] at e0
  exact congrArg₂ max e0 e1

/-- A column block beside itself, where the columns of each row agree. -/
theorem cat_at (n : FVec Ideal S256x128 .f32) (f : Fin 256 → EReal) (h : ∀ i, n i = f (i 0)) (i : S256x256.Idx) :
    concatenate S256x256 1 [⟨S256x128, n⟩, ⟨S256x128, n⟩] concatenates_S256x128_S256x128_S256x256_d1 i = f (i 0) := by
  by_cases hi : (i 1 : ℕ) < 128
  · refine (concatenate_pair_apply_left (t := S256x256) 1 n n _ i rfl (ix2 (i 0) ⟨i 1, hi⟩) fun b => ?_).trans (h _)
    match b with
    | ⟨0, _⟩ => rfl
    | ⟨1, _⟩ => rfl
  · have h1 : (i 1 : ℕ) < 256 := (i 1).isLt
    refine (concatenate_pair_apply_right (t := S256x256) 1 n n _ i rfl rfl (ix2 (i 0) ⟨(i 1 : ℕ) - 128, by omega⟩) (fun b hb => ?_) ?_).trans (h _)
    · match b, hb with
      | ⟨0, _⟩, _ => rfl
      | ⟨1, _⟩, hb => exact absurd rfl hb
    · show (i 1 : ℕ) - 128 + 128 = (i 1 : ℕ)
      omega

theorem hqt_at (n : Vec Ideal S256x128 .f32) (v : Vec Ideal S256x256 .f32) (f : Fin 256 → EReal) (t : Fin 256 → EReal) (h : ∀ i, n i = RI (t (i 0))) (i : S256x256.Idx) :
    hqt n v i = code (v i) (t (i 0)) := by
  have e := cat_at n (fun a => RI (t a)) h i
  show min _ (max _ (v i * concatenate S256x256 1 [⟨S256x128, n⟩, ⟨S256x128, n⟩] concatenates_S256x128_S256x128_S256x256_d1 i)) = _
  rw [e]
  rfl

theorem gate_at {σ : Shape} (g c a u b : FVec Ideal σ .f32) (i : σ.Idx) (G C A U B : EReal) (hg : g i = G) (hc : c i = C) (ha : a i = A)
    (hu : u i = U) (hb : b i = B) :
    mulf (mulf (mulf (mulf g c) a) (logistic (mulf (mulf g c) a))) (mulf (mulf u c) b) i = G * C * A * Ideal.logistic (G * C * A) * (U * C * B) := by
  subst hg hc ha hu hb
  rfl

theorem hnt_at (s : Vec Ideal S256x128 .f32) (q : Vec Ideal S256x2560 .fp8e4m3) (wg wu : Vec Ideal S2560x256 .fp8e4m3) (sg su : Vec Ideal S1x256 .f32)
    (f : Fin 256 → EReal) (h : ∀ i, s i = f (i 0)) (i : S256x256.Idx) :
    hnt s q wg wu sg su i = hent (row q (i 0)) (f (i 0)) (fun k => wg (ix2 k (i 1))) (fun k => wu (ix2 k (i 1))) (sg (ix2 0 (i 1))) (su (ix2 0 (i 1))) := by
  have e := cat_at s f h i
  have m1 := mm_at (a := 256) (b := 2560) (c := 256) (φ₁ := .fp8e4m3) (φ₂ := .fp8e4m3) none q wg i
  have m2 := mm_at (a := 256) (b := 2560) (c := 256) (φ₁ := .fp8e4m3) (φ₂ := .fp8e4m3) none q wu i
  have r1 := spreadRow_at (r := 256) (shapeCast S1x256 sg shapeCasts_S1x256_S1x256) broadcasts_S1x256_S256x256 i
  have r2 := spreadRow_at (r := 256) (shapeCast S1x256 su shapeCasts_S1x256_S1x256) broadcasts_S1x256_S256x256 i
  rw [shapeCast_self] at r1 r2
  unfold hnt k0_pay110
  rw [shapeCast_self, shapeCast_self]
  exact gate_at _ _ _ _ _ i _ _ _ _ _ m1 e r1 m2 r2

end Cert.Proof.UpBlk
end
-- ==== Proof.UpTile.lean ====
/-
  Hand-written, untrusted. What each store of a grid step of the gate/up kernel writes, as a block of one function of what the step finds:
  `bXC`, `bSC`, `bXS` are the codes and scales of a block of rows, `bH` the gated product, `amh` the maxima of its lanes.
-/
module

public import proofs.«01_k».proof.Proof.UpBlk
public import Idealize.ShloMosaic.Lib.Pipeline.ValueKit
public import Idealize.ShloMosaic.Lib.Pipeline.ReadBack
public import Idealize.ShloMosaic.Lib.Ring

@[expose] public section

set_option maxRecDepth 16384

noncomputable section

namespace Cert.Proof.UpTile

open Cert.UpIdeal Cert.UpIdeal.Gen
open Idealize.ShloMosaic
open Cert.Proof.UpVec Cert.Proof.UpExp Cert.Proof.UpBlk

/-- The codes of the rows of a block. -/
def bC {r k : ℕ} (x : (M r k).Idx → EReal) : (M r k).Idx → EReal := fun i => qc (row x (i 0)) (i 1)
/-- Their scales, repeated over the lanes. -/
def bS {k : ℕ} (x : (M 256 k).Idx → EReal) : S256x128.Idx → EReal := fun i => qs (row x (i 0))
/-- Their scales as lanes. -/
def bL {k : ℕ} (x : (M 256 k).Idx → EReal) : S1x2x128.Idx → EReal := fun i => qs (row x (lrow i))
/-- The gated product from codes, scales, weights and their scales. -/
def bH (q : (M 256 2560).Idx → EReal) (f : Fin 256 → EReal) (w : (M 2560 13824).Idx → EReal) (s : (M 1 13824).Idx → EReal) :
    (M 256 6912).Idx → EReal := fun i =>
  hent (row q (i 0)) (f (i 0)) (fun k => w (ix2 k ⟨i 1, by have : (i 1 : ℕ) < 6912 := (i 1).isLt; omega⟩))
    (fun k => w (ix2 k ⟨6912 + i 1, by have : (i 1 : ℕ) < 6912 := (i 1).isLt; omega⟩))
    (s (ix2 0 ⟨i 1, by have : (i 1 : ℕ) < 6912 := (i 1).isLt; omega⟩))
    (s (ix2 0 ⟨6912 + i 1, by have : (i 1 : ℕ) < 6912 := (i 1).isLt; omega⟩))
/-- The magnitude of entry `c` of row `a`. -/
def mag (h : (M 256 6912).Idx → EReal) (a : Fin 256) (c : ℕ) : EReal := if hc : c < 6912 then max (h (ix2 a ⟨c, hc⟩)) (-h (ix2 a ⟨c, hc⟩)) else ⊥
/-- The larger magnitude in lane `i 1` of the two halves of column tile `n`. -/
def am1 (h : (M 256 6912).Idx → EReal) (n : ℕ) : S256x128.Idx → EReal := fun i =>
  max (mag h (i 0) (256 * n + i 1)) (mag h (i 0) (256 * n + 128 + i 1))
/-- The running maxima of the lanes after column tiles `0 … n`. -/
def amh (h : (M 256 6912).Idx → EReal) : ℕ → S256x128.Idx → EReal
  | 0 => am1 h 0
  | n + 1 => fun i => max (amh h n i) (am1 h (n + 1) i)

theorem canon_all {S : Shape} {e : EltTy} (G : S.Idx → Elt Ideal e) (L : List (View.Piece (Elt Ideal) S e)) (size : Fin S.rank → ℕ)
    (hp : View.PiecesOf G L) (hc : View.Piece.tiledL L size = true) : View.canon L = G :=
  funext fun y => View.canon_apply_of_pieces G L hp.mem y (View.cover_of_tiledL L size hc y)

theorem pc {S : Shape} {e : EltTy} {G : S.Idx → Elt Ideal e} {p : View.Piece (Elt Ideal) S e} {L : List (View.Piece (Elt Ideal) S e)}
    (h : ∀ x, p.2 x = G (p.1.emb x)) (hL : View.PiecesOf G L) : View.PiecesOf G (p :: L) := ⟨h, hL⟩
theorem pn {S : Shape} {e : EltTy} {G : S.Idx → Elt Ideal e} : View.PiecesOf G ([] : List (View.Piece (Elt Ideal) S e)) := trivial

section Loads
variable {S : Shape} {e : EltTy} {κ : Kind} {sp : Space} (arg : Memref sig κ sp S e) (h : arg.IsWhole) (X : Vec Ideal S e)

theorem rd_at (off size : Fin S.rank → ℕ) (inb : ∀ a, off a + size a ≤ S.size a) (x : (Rect.unit off size inb).shape.Idx) (i : S.Idx)
    (hi : ∀ a, (i a : ℕ) = off a + x a) :
    View.readAt (Elt Ideal) arg.view (Rect.unit off size inb).toLoadRect (h.unread X) x = X i := by
  rw [View.readAt_eq_ld, Memref.IsWhole.read_unread]
  exact View.ld_unit_apply_of X off size inb x i hi

theorem rd_whole (off : Fin S.rank → ℕ) (ho : off = fun _ => 0) (inb : ∀ a, off a + S.size a ≤ S.size a) :
    View.readAt (Elt Ideal) arg.view (Rect.unit off S.size inb).toLoadRect (h.unread X) = X := by
  rw [View.readAt_eq_ld, Memref.IsWhole.read_unread]
  exact View.ld_unit_zero ho inb X
end Loads

theorem off2 : (![0, 0] : Fin 2 → ℕ) = fun _ => 0 := by decide
theorem off3 : (![0, 0, 0] : Fin 3 → ℕ) = fun _ => 0 := by decide

section Chunks
variable {κ : Kind} {sp : Space} (arg1 : Memref sig κ sp S256x2560 .bf16) (h : arg1.IsWhole) (X : Vec Ideal S256x2560 .bf16) (o : ℕ)
  (inb : ∀ a, (![o, 0] : Fin 2 → ℕ) a + (![32, 2560] : Fin 2 → ℕ) a ≤ S256x2560.size a)

theorem ch_row (a : Fin 32) (j : Fin 256) (hj : (j : ℕ) = o + a) :
    row (View.readAt (Elt Ideal) arg1.view (Rect.unit (s := S256x2560) ![o, 0] ![32, 2560] inb).toLoadRect (h.unread X) : (M 32 2560).Idx → EReal) a = row X j :=
  funext fun b => rd_at arg1 h X ![o, 0] ![32, 2560] inb (ix2 a b) (ix2 j b) (Fin.forall_fin_two.mpr ⟨hj, (Nat.zero_add _).symm⟩)

theorem chQ_tile (x : S32x2560.Idx) :
    chQ (View.readAt (Elt Ideal) arg1.view (Rect.unit (s := S256x2560) ![o, 0] ![32, 2560] inb).toLoadRect (h.unread X)) x
      = bC X ((Rect.unit (s := S256x2560) ![o, 0] ![32, 2560] inb).emb x) := by
  have h0 : ((Rect.unit (s := S256x2560) ![o, 0] ![32, 2560] inb).emb x 0 : ℕ) = o + x 0 := ValueKit.rect_emb_unit_val (s := S256x2560) ![o, 0] ![32, 2560] inb x 0
  have h1 : ((Rect.unit (s := S256x2560) ![o, 0] ![32, 2560] inb).emb x 1 : ℕ) = x 1 := (ValueKit.rect_emb_unit_val (s := S256x2560) ![o, 0] ![32, 2560] inb x 1).trans (Nat.zero_add _)
  generalize (Rect.unit (s := S256x2560) ![o, 0] ![32, 2560] inb).emb x = i at h0 h1
  refine (chQ_at _ x).trans ?_
  have e1 := ch_row arg1 h X o inb (x 0) (i 0) h0
  have e2 : (x 1 : Fin 2560) = i 1 := Fin.ext h1.symm
  show qc _ (x 1 : Fin 2560) = qc (row X (i 0)) (i 1)
  rw [e2]
  exact congrArg (fun f => qc f (i 1)) e1

theorem chS_tile (inb' : ∀ a, (![o, 0] : Fin 2 → ℕ) a + (![32, 128] : Fin 2 → ℕ) a ≤ S256x128.size a) (x : S32x128.Idx) :
    chS (View.readAt (Elt Ideal) arg1.view (Rect.unit (s := S256x2560) ![o, 0] ![32, 2560] inb).toLoadRect (h.unread X)) x
      = bS (k := 2560) X ((Rect.unit (s := S256x128) ![o, 0] ![32, 128] inb').emb x) := by
  have h0 : ((Rect.unit (s := S256x128) ![o, 0] ![32, 128] inb').emb x 0 : ℕ) = o + x 0 := ValueKit.rect_emb_unit_val (s := S256x128) ![o, 0] ![32, 128] inb' x 0
  generalize (Rect.unit (s := S256x128) ![o, 0] ![32, 128] inb').emb x = i at h0
  refine (chS_at _ x).trans ?_
  exact congrArg (fun f => qs f) (ch_row arg1 h X o inb (x 0) (i 0) h0)

end Chunks

section Codes
variable {κ : Kind} {sp : Space} (arg : Memref sig κ sp S256x6912 .f32) (h : arg.IsWhole) (X : Vec Ideal S256x6912 .f32) (o : ℕ)
  (inb : ∀ a, (![0, o] : Fin 2 → ℕ) a + (![256, 256] : Fin 2 → ℕ) a ≤ S256x6912.size a)

theorem hq_tile (n : Vec Ideal S256x128 .f32) (hn : ∀ i, n i = RI (T (row X (i 0)))) (x : S256x256.Idx) :
    hqt n (View.readAt (Elt Ideal) arg.view (Rect.unit (s := S256x6912) ![0, o] ![256, 256] inb).toLoadRect (h.unread X)) x
      = bC X ((Rect.unit (s := S256x6912) ![0, o] ![256, 256] inb).emb x) := by
  have h0 : ((Rect.unit (s := S256x6912) ![0, o] ![256, 256] inb).emb x 0 : ℕ) = x 0 := (ValueKit.rect_emb_unit_val (s := S256x6912) ![0, o] ![256, 256] inb x 0).trans (Nat.zero_add _)
  have h1 : ((Rect.unit (s := S256x6912) ![0, o] ![256, 256] inb).emb x 1 : ℕ) = o + x 1 := ValueKit.rect_emb_unit_val (s := S256x6912) ![0, o] ![256, 256] inb x 1
  generalize (Rect.unit (s := S256x6912) ![0, o] ![256, 256] inb).emb x = i at h0 h1
  refine (hqt_at _ _ (fun _ => 0) (fun a => T (row X a)) hn x).trans ?_
  have e1 := rd_at arg h X ![0, o] ![256, 256] inb x (ix2 (i 0) (i 1)) (Fin.forall_fin_two.mpr ⟨h0.trans (Nat.zero_add _).symm, h1⟩)
  have e2 : (x 0 : Fin 256) = i 0 := Fin.ext h0.symm
  show code _ (T (row X (x 0 : Fin 256))) = code (X (ix2 (i 0) (i 1))) (T (row X (i 0)))
  rw [e2]
  exact congrArg (fun v => code v (T (row X (i 0)))) e1

end Codes

section Gated
variable {κ : Kind} {sp sp2 sp3 sp9 : Space} (arg9 : Memref sig κ sp9 S256x128 .f32) (h9 : arg9.IsWhole) (x9 : Vec Ideal S256x128 .f32)
  (arg8 : Memref sig κ sp S256x2560 .fp8e4m3) (h8 : arg8.IsWhole) (x8 : Vec Ideal S256x2560 .fp8e4m3)
  (arg2 : Memref sig κ sp2 S2560x13824 .fp8e4m3) (h2 : arg2.IsWhole) (x2 : Vec Ideal S2560x13824 .fp8e4m3)
  (arg3 : Memref sig κ sp3 S1x13824 .f32) (h3 : arg3.IsWhole) (x3 : Vec Ideal S1x13824 .f32) (o u : ℕ)
  (inb9 : ∀ a, (![0, 0] : Fin 2 → ℕ) a + (![256, 128] : Fin 2 → ℕ) a ≤ S256x128.size a)
  (inb8 : ∀ a, (![0, 0] : Fin 2 → ℕ) a + (![256, 2560] : Fin 2 → ℕ) a ≤ S256x2560.size a)
  (inb2 : ∀ a, (![0, o] : Fin 2 → ℕ) a + (![2560, 256] : Fin 2 → ℕ) a ≤ S2560x13824.size a)
  (inb2u : ∀ a, (![0, u] : Fin 2 → ℕ) a + (![2560, 256] : Fin 2 → ℕ) a ≤ S2560x13824.size a)
  (inb3 : ∀ a, (![0, o] : Fin 2 → ℕ) a + (![1, 256] : Fin 2 → ℕ) a ≤ S1x13824.size a)
  (inb3u : ∀ a, (![0, u] : Fin 2 → ℕ) a + (![1, 256] : Fin 2 → ℕ) a ≤ S1x13824.size a)

/-- A tile of the gated product as the kernel's loads give it. -/
def hld : FVec Ideal S256x256 .f32 :=
  hnt (View.readAt (Elt Ideal) arg9.view (Rect.unit (s := S256x128) ![0, 0] ![256, 128] inb9).toLoadRect (h9.unread x9))
    (View.readAt (Elt Ideal) arg8.view (Rect.unit (s := S256x2560) ![0, 0] ![256, 2560] inb8).toLoadRect (h8.unread x8))
    (View.readAt (Elt Ideal) arg2.view (Rect.unit (s := S2560x13824) ![0, o] ![2560, 256] inb2).toLoadRect (h2.unread x2))
    (View.readAt (Elt Ideal) arg2.view (Rect.unit (s := S2560x13824) ![0, u] ![2560, 256] inb2u).toLoadRect (h2.unread x2))
    (View.readAt (Elt Ideal) arg3.view (Rect.unit (s := S1x13824) ![0, o] ![1, 256] inb3).toLoadRect (h3.unread x3))
    (View.readAt (Elt Ideal) arg3.view (Rect.unit (s := S1x13824) ![0, u] ![1, 256] inb3u).toLoadRect (h3.unread x3))

theorem hld_at (f : Fin 256 → EReal) (hf : ∀ i, x9 i = f (i 0)) (hu : u = 6912 + o) (x : S256x256.Idx) (i : (M 256 6912).Idx)
    (h0 : (i 0 : ℕ) = x 0) (h1 : (i 1 : ℕ) = o + x 1) :
    hld arg9 h9 x9 arg8 h8 x8 arg2 h2 x2 arg3 h3 x3 o u inb9 inb8 inb2 inb2u inb3 inb3u x = bH x8 f x2 x3 i := by
  unfold hld
  rw [show View.readAt (Elt Ideal) arg9.view (Rect.unit (s := S256x128) ![0, 0] ![256, 128] inb9).toLoadRect (h9.unread x9) = x9 from rd_whole arg9 h9 x9 _ off2 inb9,
    show View.readAt (Elt Ideal) arg8.view (Rect.unit (s := S256x2560) ![0, 0] ![256, 2560] inb8).toLoadRect (h8.unread x8) = x8 from rd_whole arg8 h8 x8 _ off2 inb8]
  refine (hnt_at _ _ _ _ _ _ f hf x).trans ?_
  have e0 : (x 0 : Fin 256) = i 0 := Fin.ext h0.symm
  have b1 : (i 1 : ℕ) < 6912 := (i 1).isLt
  have w1 : ∀ k : Fin 2560, View.readAt (Elt Ideal) arg2.view (Rect.unit (s := S2560x13824) ![0, o] ![2560, 256] inb2).toLoadRect (h2.unread x2) (ix2 k (x 1))
      = x2 (ix2 k ⟨i 1, by omega⟩) := fun k => rd_at arg2 h2 x2 _ _ inb2 _ _ (Fin.forall_fin_two.mpr ⟨(Nat.zero_add _).symm, h1⟩)
  have w2 : ∀ k : Fin 2560, View.readAt (Elt Ideal) arg2.view (Rect.unit (s := S2560x13824) ![0, u] ![2560, 256] inb2u).toLoadRect (h2.unread x2) (ix2 k (x 1))
      = x2 (ix2 k ⟨6912 + i 1, by omega⟩) := fun k => rd_at arg2 h2 x2 _ _ inb2u _ _ (Fin.forall_fin_two.mpr ⟨(Nat.zero_add _).symm, by
        show 6912 + (i 1 : ℕ) = u + (x 1 : ℕ)
        omega⟩)
  have s1 : View.readAt (Elt Ideal) arg3.view (Rect.unit (s := S1x13824) ![0, o] ![1, 256] inb3).toLoadRect (h3.unread x3) (ix2 0 (x 1))
      = x3 (ix2 0 ⟨i 1, by omega⟩) := rd_at arg3 h3 x3 _ _ inb3 _ _ (Fin.forall_fin_two.mpr ⟨(Nat.zero_add _).symm, h1⟩)
  have s2 : View.readAt (Elt Ideal) arg3.view (Rect.unit (s := S1x13824) ![0, u] ![1, 256] inb3u).toLoadRect (h3.unread x3) (ix2 0 (x 1))
      = x3 (ix2 0 ⟨6912 + i 1, by omega⟩) := rd_at arg3 h3 x3 _ _ inb3u _ _ (Fin.forall_fin_two.mpr ⟨(Nat.zero_add _).symm, by
        show 6912 + (i 1 : ℕ) = u + (x 1 : ℕ)
        omega⟩)
  have key : ∀ (a b : Fin 256) (g g' k k' : Fin 2560 → EReal) (p p' r r' : EReal), a = b → (∀ z, g z = g' z) → (∀ z, k z = k' z) → p = p' → r = r' →
      hent (row x8 a) (f a) g k p r = hent (row x8 b) (f b) g' k' p' r' := by
    intro a b g g' k k' p p' r r' ha hg hk hp hr
    obtain rfl := funext hg
    obtain rfl := funext hk
    subst ha hp hr
    rfl
  exact key _ _ _ _ _ _ _ _ _ _ e0 w1 w2 s1 s2

theorem hn_tile (f : Fin 256 → EReal) (hf : ∀ i, x9 i = f (i 0)) (hu : u = 6912 + o)
    (inb : ∀ a, (![0, o] : Fin 2 → ℕ) a + (![256, 256] : Fin 2 → ℕ) a ≤ S256x6912.size a) (x : S256x256.Idx) :
    shapeCast S256x256 (hld arg9 h9 x9 arg8 h8 x8 arg2 h2 x2 arg3 h3 x3 o u inb9 inb8 inb2 inb2u inb3 inb3u) shapeCasts_S256x256_S256x256 x
      = bH x8 f x2 x3 ((Rect.unit (s := S256x6912) ![0, o] ![256, 256] inb).emb x) := by
  have h0 : ((Rect.unit (s := S256x6912) ![0, o] ![256, 256] inb).emb x 0 : ℕ) = x 0 := (ValueKit.rect_emb_unit_val (s := S256x6912) ![0, o] ![256, 256] inb x 0).trans (Nat.zero_add _)
  have h1 : ((Rect.unit (s := S256x6912) ![0, o] ![256, 256] inb).emb x 1 : ℕ) = o + x 1 := ValueKit.rect_emb_unit_val (s := S256x6912) ![0, o] ![256, 256] inb x 1
  rw [shapeCast_self]
  exact hld_at arg9 h9 x9 arg8 h8 x8 arg2 h2 x2 arg3 h3 x3 o u inb9 inb8 inb2 inb2u inb3 inb3u f hf hu x _ h0 h1

theorem am_tile (f : Fin 256 → EReal) (hf : ∀ i, x9 i = f (i 0)) (hu : u = 6912 + o) (n : ℕ) (ho : o = 256 * n) (hn : n < 27) :
    am0 (hld arg9 h9 x9 arg8 h8 x8 arg2 h2 x2 arg3 h3 x3 o u inb9 inb8 inb2 inb2u inb3 inb3u) = am1 (bH x8 f x2 x3) n := by
  funext i
  obtain ⟨a, b, rfl⟩ : ∃ (a : Fin 256) (b : Fin 128), i = ix2 a b := ⟨i 0, i 1, funext fun c => by
    match c with
    | ⟨0, _⟩ => rfl
    | ⟨1, _⟩ => rfl⟩
  refine (am0_at _ a b).trans ?_
  have hb := b.isLt
  have c1 : 256 * n + (b : ℕ) < 6912 := by omega
  have c2 : 256 * n + 128 + (b : ℕ) < 6912 := by omega
  have e1 := hld_at arg9 h9 x9 arg8 h8 x8 arg2 h2 x2 arg3 h3 x3 o u inb9 inb8 inb2 inb2u inb3 inb3u f hf hu
    (ix2 a (⟨b, by omega⟩ : Fin 256)) (ix2 a (⟨256 * n + b, c1⟩ : Fin 6912)) rfl (by show 256 * n + (b : ℕ) = o + (b : ℕ); omega)
  have e2 := hld_at arg9 h9 x9 arg8 h8 x8 arg2 h2 x2 arg3 h3 x3 o u inb9 inb8 inb2 inb2u inb3 inb3u f hf hu
    (ix2 a (⟨128 + b, by omega⟩ : Fin 256)) (ix2 a (⟨256 * n + 128 + b, c2⟩ : Fin 6912)) rfl
    (by show 256 * n + 128 + (b : ℕ) = o + (128 + (b : ℕ)); omega)
  rw [e1, e2]
  show _ = max (mag _ a (256 * n + (b : ℕ))) (mag _ a (256 * n + 128 + (b : ℕ)))
  unfold mag
  rw [dif_pos c1, dif_pos c2]

end Gated

/-- A buffer read back whole after stores that leave `G`. -/
theorem readCov_whole {S : Shape} {e : EltTy} {κ : Kind} {sp : Space} (v : View sig κ sp S e) (L : List (View.Piece (Elt Ideal) S e))
    (off : Fin S.rank → ℕ) (ho : off = fun _ => 0) (inb : ∀ a, off a + S.size a ≤ S.size a) {G : S.Idx → Elt Ideal e} (h : View.canon L = G) :
    v.readCov L (Rect.unit off S.size inb).toLoadRect = G := by
  subst ho
  rw [View.readCov_eq_canon', h]
  funext j
  exact congrArg G (funext fun a => Fin.ext ((Rect.idx_unit_val _ _ inb j a).trans (Nat.zero_add _)))

theorem am_first {H : (M 256 6912).Idx → EReal} (h : FVec Ideal S256x256 .f32) (w : FVec Ideal S256x128 .f32) (hh : am0 h = am1 H 0)
    (hw : w = shapeCast S256x128 (am0 h) shapeCasts_S256x128_S256x128) :
    View.canon (Val := Elt Ideal) (e := .f32) [⟨Rect.unit (s := S256x128) ![0, 0] ![256, 128] inb_S256x128_S256x128_0_0, w⟩] = amh H 0 := by
  refine (View.canon_unit_zero off2 _ _).trans ?_
  rw [hw, shapeCast_self, hh]
  rfl

/-- One more column tile: the buffer of running maxima is read back, joined with the tile's and stored whole. -/
theorem am_step {κ : Kind} {sp : Space} (v : View sig κ sp S256x128 .f32) {H : (M 256 6912).Idx → EReal} (L : List (View.Piece (Elt Ideal) S256x128 .f32))
    (inb : ∀ a, (![0, 0] : Fin 2 → ℕ) a + S256x128.size a ≤ S256x128.size a) (n : ℕ) (hL : View.canon L = amh H n)
    (h : FVec Ideal S256x256 .f32) (hh : am0 h = am1 H (n + 1)) (w : FVec Ideal S256x128 .f32)
    (hw : w = shapeCast S256x128 (maximumf (v.readCov L (Rect.unit (s := S256x128) ![0, 0] S256x128.size inb).toLoadRect) (am0 h)) shapeCasts_S256x128_S256x128) :
    View.canon ((⟨Rect.unit (s := S256x128) ![0, 0] S256x128.size inb, w⟩ : View.Piece (Elt Ideal) S256x128 .f32) :: L) = amh H (n + 1) := by
  refine (View.canon_cons_unit_zero off2 _ _ _).trans ?_
  rw [hw, shapeCast_self, hh, readCov_whole v L _ off2 inb hL]
  rfl

end Cert.Proof.UpTile
end
-- ==== Proof.UpPoints.lean ====
/- What the runs of the gate/up kernel share: its branch conditions over the grid points, the buffers the body is called
   with, and the region's invariant spelled over its scratch buffers. -/
module

public import proofs.«01_k».proof.Proof.Gen.UpIdeal.Frame
public import proofs.«01_k».proof.Proof.Gen.UpIdeal.Skeleton
public import Idealize.ShloMosaic.Lib.Claim

@[expose] public section

set_option maxRecDepth 16384

noncomputable section

namespace Cert.Proof.UpRun

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 130 = 0 :=
  (fun t => by
    have ht : t.val < 130 := Nat.lt_of_lt_of_eq t.isLt N_0
    have e0 : (grid0.coords t 0).val = t.val / 1 % 130 := Pipeline.Grid.coords_val t 0 (by decide) rfl
    simp only [cond0_0, k0_cond1, e0]
    word_cmp
   : ∀ t : Fin grid0.N, cond0_0 (grid0.coords t) ↔ t.val % 130 = 0)

/-- The condition of the body's `scf.if` 1 (`k0_h2`), from the grid coordinates (the skeleton's scalar
    chain substituted). -/
abbrev cond0_1 (i : grid0.Coords) : Prop := k0_cond2 i = 1#1
/-- It holds at the points whose coordinates have 1 ≤ i0 and i0 ≤ 128 — decided over the grid. -/
theorem hcond0_1 : ∀ t : Fin cfg0.N, cond0_1 (grid0.coords t) ↔ (1 ≤ t.val % 130 ∧ t.val % 130 ≤ 128) :=
  (by decide +kernel : ∀ t : Fin grid0.N, cond0_1 (grid0.coords t) ↔ (1 ≤ t.val % 130 ∧ t.val % 130 ≤ 128))

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 130 = 129 :=
  (fun t => by
    have ht : t.val < 130 := Nat.lt_of_lt_of_eq t.isLt N_0
    have e0 : (grid0.coords t 0).val = t.val / 1 % 130 := Pipeline.Grid.coords_val t 0 (by decide) rfl
    simp only [cond0_2, k0_cond3, e0]
    word_cmp
   : ∀ t : Fin grid0.N, cond0_2 (grid0.coords t) ↔ t.val % 130 = 129)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S256x2560 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2560x13824 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x13824 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x2560 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x6912 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2x128 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S256x2560 .fp8e4m3 := Memref.whole cc0_scratch0
abbrev scM0_1 : Memref sig .tc .vmem S256x128 .f32 := Memref.whole cc0_scratch1
abbrev scM0_2 : Memref sig .tc .vmem S256x128 .f32 := Memref.whole cc0_scratch2
abbrev scM0_3 : Memref sig .tc .vmem S256x6912 .f32 := Memref.whole cc0_scratch3
abbrev scM0_4 : Memref sig .tc .vmem S256x128 .f32 := Memref.whole cc0_scratch4
abbrev scM0_5 : Memref sig .tc .vmem S256x128 .f32 := Memref.whole cc0_scratch5
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.Proof.UpRun

end
-- ==== Proof.UpRunA.lean ====
/- The gate/up kernel's body at the first grid point, run: which pieces it stores into which buffer. -/
module

public import proofs.«01_k».proof.Proof.UpPoints

@[expose] public section

set_option maxRecDepth 16384

noncomputable section

namespace Cert.Proof.UpRun

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at the first grid point: the stores it makes into each buffer it fills (`L4`, …: the pieces, last first, of the
    argument of that number), with the proof that from whole buffers — those it reads before storing at named contents
    (`x1`, …), the others at any — it runs to the end, leaving those pieces written and the buffers it only reads as
    they were. -/
noncomputable def runA (c : Dev nD) (i : grid0.Coords) (arg1 : Memref sig .tc .vmem S256x2560 .bf16) (harg1 : arg1.IsWhole) (arg2 : Memref sig .tc .vmem S2560x13824 .fp8e4m3) (harg2 : arg2.IsWhole) (arg3 : Memref sig .tc .vmem S1x13824 .f32) (harg3 : arg3.IsWhole) (arg4 : Memref sig .tc .vmem S256x2560 .fp8e4m3) (harg4 : arg4.IsWhole) (arg5 : Memref sig .tc .vmem S1x2x128 .f32) (harg5 : arg5.IsWhole) (arg6 : Memref sig .tc .vmem S256x6912 .fp8e4m3) (harg6 : arg6.IsWhole) (arg7 : Memref sig .tc .vmem S1x2x128 .f32) (harg7 : arg7.IsWhole) (arg8 : Memref sig .tc .vmem S256x2560 .fp8e4m3) (harg8 : arg8.IsWhole) (arg9 : Memref sig .tc .vmem S256x128 .f32) (harg9 : arg9.IsWhole) (arg10 : Memref sig .tc .vmem S256x128 .f32) (harg10 : arg10.IsWhole) (arg11 : Memref sig .tc .vmem S256x6912 .f32) (harg11 : arg11.IsWhole) (arg12 : Memref sig .tc .vmem S256x128 .f32) (harg12 : arg12.IsWhole) (arg13 : Memref sig .tc .vmem S256x128 .f32) (harg13 : arg13.IsWhole) (hc0 : cond0_0 i) (hc1 : ¬cond0_1 i) (hc2 : ¬cond0_2 i)
    (x1 : Vec F S256x2560 .bf16) (x2 : Vec F S2560x13824 .fp8e4m3) (x3 : Vec F S1x13824 .f32) (x6 : Vec F S256x6912 .fp8e4m3) (x7 : Vec F S1x2x128 .f32) :
    Σ' (L4 : List (View.Piece (Elt F) S256x2560 .fp8e4m3)), Σ' (L5 : List (View.Piece (Elt F) S1x2x128 .f32)), Σ' (L8 : List (View.Piece (Elt F) S256x2560 .fp8e4m3)), Σ' (L9 : List (View.Piece (Elt F) S256x128 .f32)), Σ' (L11 : List (View.Piece (Elt F) S256x6912 .f32)), { L12 : List (View.Piece (Elt F) S256x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x1 ∗ owns (c : Thread nD τ) arg2 fullShare x2 ∗ owns (c : Thread nD τ) arg3 fullShare x3 ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5) ∗ owns (c : Thread nD τ) arg6 fullShare x6 ∗ owns (c : Thread nD τ) arg7 fullShare x7 ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ d, owns (c : Thread nD τ) arg10 fullShare d) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ d, owns (c : Thread nD τ) arg13 fullShare d)) -∗ K ⟨⟩))
          ⊢ wp frame (wpE (defs₀ (F := F)) Variants.none c none) E (cc0_gate_up i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, fun E K => ?run⟩
  case run =>
    simp only [cc0_gate_up_eq_skeleton]; unfold cc0_gate_up_skel
    simp only [k0_part23_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
    obtain rfl := harg1.eq_unread hf1; obtain rfl := harg2.eq_unread hf2; obtain rfl := harg3.eq_unread hf3; obtain rfl := harg6.eq_unread hf6; obtain rfl := harg7.eq_unread hf7
    sl_exec (disch := first | sl_exact hc0 | sl_exact hc1 | sl_exact hc2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; iexact H4
    isplitl [H5]
    · iexists _; iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    isplitl [H9]
    · iexists _; iexact H9
    isplitl [H10]
    · iexists _, _; isplitr; swap; · iexact H10
      ipureintro; rfl
    isplitl [H11]
    · iexists _; iexact H11
    isplitl [H12]
    · iexists _; iexact H12
    iexists _, _; isplitr; swap; · iexact H13
    ipureintro; rfl

end Cert.Proof.UpRun

end
-- ==== Proof.UpValA.lean ====
/-
  Hand-written, untrusted. What a grid step of the gate/up kernel at the first point leaves in each buffer it writes.
-/
module

public import proofs.«01_k».proof.Proof.UpTile
public import proofs.«01_k».proof.Proof.UpRunA

@[expose] public section

set_option maxRecDepth 16384

noncomputable section

namespace Cert.Proof.UpValA

open Cert.UpIdeal Cert.UpIdeal.Gen
open Idealize.ShloMosaic Idealize.ShloMosaic.TcCoe Idealize.SL.Sem
open Cert.Proof.UpVec Cert.Proof.UpExp Cert.Proof.UpBlk Cert.Proof.UpTile Cert.Proof.UpRun

theorem pay94_eq (v : Vec Ideal S256x2560 .fp8e4m3) : k0_pay94 v = v := (shapeCast_self _ _).trans (shapeCast_self _ _)
theorem pay95_eq (v : Vec Ideal S256x128 .f32) : k0_pay95 v = v := shapeCast_self _ _

section
variable (c : Dev nD) (arg1 : Memref sig .tc .vmem S256x2560 .bf16) (harg1 : arg1.IsWhole) (x1 : Vec Ideal S256x2560 .bf16)

theorem codes : View.canon (runA.sl.H4_8 c arg1 harg1 x1) = bC x1 := by
  unfold runA.sl.H4_8
  refine canon_all (S := S256x2560) (e := .fp8e4m3) (bC x1) _ ![32, 2560] ?_ ?_
  · refine pc (fun x => chQ_tile arg1 harg1 x1 224 inb_S256x2560_S32x2560_224_0 x) ?_
    refine pc (fun x => chQ_tile arg1 harg1 x1 192 inb_S256x2560_S32x2560_192_0 x) ?_
    refine pc (fun x => chQ_tile arg1 harg1 x1 160 inb_S256x2560_S32x2560_160_0 x) ?_
    refine pc (fun x => chQ_tile arg1 harg1 x1 128 inb_S256x2560_S32x2560_128_0 x) ?_
    refine pc (fun x => chQ_tile arg1 harg1 x1 96 inb_S256x2560_S32x2560_96_0 x) ?_
    refine pc (fun x => chQ_tile arg1 harg1 x1 64 inb_S256x2560_S32x2560_64_0 x) ?_
    refine pc (fun x => chQ_tile arg1 harg1 x1 32 inb_S256x2560_S32x2560_32_0 x) ?_
    refine pc (fun x => chQ_tile arg1 harg1 x1 0 inb_S256x2560_S32x2560_0_0 x) ?_
    exact pn
  · rfl

theorem scales : View.canon (runA.sl.H10_8 c arg1 harg1 x1) = bS x1 := by
  unfold runA.sl.H10_8
  refine canon_all (S := S256x128) (e := .f32) (bS x1) _ ![32, 128] ?_ ?_
  · refine pc (fun x => chS_tile arg1 harg1 x1 224 inb_S256x2560_S32x2560_224_0 inb_S256x128_S32x128_224_0 x) ?_
    refine pc (fun x => chS_tile arg1 harg1 x1 192 inb_S256x2560_S32x2560_192_0 inb_S256x128_S32x128_192_0 x) ?_
    refine pc (fun x => chS_tile arg1 harg1 x1 160 inb_S256x2560_S32x2560_160_0 inb_S256x128_S32x128_160_0 x) ?_
    refine pc (fun x => chS_tile arg1 harg1 x1 128 inb_S256x2560_S32x2560_128_0 inb_S256x128_S32x128_128_0 x) ?_
    refine pc (fun x => chS_tile arg1 harg1 x1 96 inb_S256x2560_S32x2560_96_0 inb_S256x128_S32x128_96_0 x) ?_
    refine pc (fun x => chS_tile arg1 harg1 x1 64 inb_S256x2560_S32x2560_64_0 inb_S256x128_S32x128_64_0 x) ?_
    refine pc (fun x => chS_tile arg1 harg1 x1 32 inb_S256x2560_S32x2560_32_0 inb_S256x128_S32x128_32_0 x) ?_
    refine pc (fun x => chS_tile arg1 harg1 x1 0 inb_S256x2560_S32x2560_0_0 inb_S256x128_S32x128_0_0 x) ?_
    exact pn
  · rfl
end

theorem L4 (c : Dev nD) (i : grid0.Coords) (arg1 : Memref sig .tc .vmem S256x2560 .bf16) (harg1 : arg1.IsWhole) (arg2 : Memref sig .tc .vmem S2560x13824 .fp8e4m3) (harg2 : arg2.IsWhole) (arg3 : Memref sig .tc .vmem S1x13824 .f32) (harg3 : arg3.IsWhole) (arg4 : Memref sig .tc .vmem S256x2560 .fp8e4m3) (harg4 : arg4.IsWhole) (arg5 : Memref sig .tc .vmem S1x2x128 .f32) (harg5 : arg5.IsWhole) (arg6 : Memref sig .tc .vmem S256x6912 .fp8e4m3) (harg6 : arg6.IsWhole) (arg7 : Memref sig .tc .vmem S1x2x128 .f32) (harg7 : arg7.IsWhole) (arg8 : Memref sig .tc .vmem S256x2560 .fp8e4m3) (harg8 : arg8.IsWhole) (arg9 : Memref sig .tc .vmem S256x128 .f32) (harg9 : arg9.IsWhole) (arg10 : Memref sig .tc .vmem S256x128 .f32) (harg10 : arg10.IsWhole) (arg11 : Memref sig .tc .vmem S256x6912 .f32) (harg11 : arg11.IsWhole) (arg12 : Memref sig .tc .vmem S256x128 .f32) (harg12 : arg12.IsWhole) (arg13 : Memref sig .tc .vmem S256x128 .f32) (harg13 : arg13.IsWhole) (hc0 : cond0_0 i) (hc1 : ¬cond0_1 i) (hc2 : ¬cond0_2 i)
    (x1 : Vec Ideal S256x2560 .bf16) (x2 : Vec Ideal S2560x13824 .fp8e4m3) (x3 : Vec Ideal S1x13824 .f32) (x6 : Vec Ideal S256x6912 .fp8e4m3) (x7 : Vec Ideal S1x2x128 .f32) :
    View.canon (runA c i arg1 harg1 arg2 harg2 arg3 harg3 arg4 harg4 arg5 harg5 arg6 harg6 arg7 harg7 arg8 harg8 arg9 harg9 arg10 harg10 arg11 harg11 arg12 harg12 arg13 harg13 hc0 hc1 hc2 x1 x2 x3 x6 x7).1 = bC x1 := by
  unfold runA
  dsimp only
  exact codes c arg1 harg1 x1

theorem L5 (c : Dev nD) (i : grid0.Coords) (arg1 : Memref sig .tc .vmem S256x2560 .bf16) (harg1 : arg1.IsWhole) (arg2 : Memref sig .tc .vmem S2560x13824 .fp8e4m3) (harg2 : arg2.IsWhole) (arg3 : Memref sig .tc .vmem S1x13824 .f32) (harg3 : arg3.IsWhole) (arg4 : Memref sig .tc .vmem S256x2560 .fp8e4m3) (harg4 : arg4.IsWhole) (arg5 : Memref sig .tc .vmem S1x2x128 .f32) (harg5 : arg5.IsWhole) (arg6 : Memref sig .tc .vmem S256x6912 .fp8e4m3) (harg6 : arg6.IsWhole) (arg7 : Memref sig .tc .vmem S1x2x128 .f32) (harg7 : arg7.IsWhole) (arg8 : Memref sig .tc .vmem S256x2560 .fp8e4m3) (harg8 : arg8.IsWhole) (arg9 : Memref sig .tc .vmem S256x128 .f32) (harg9 : arg9.IsWhole) (arg10 : Memref sig .tc .vmem S256x128 .f32) (harg10 : arg10.IsWhole) (arg11 : Memref sig .tc .vmem S256x6912 .f32) (harg11 : arg11.IsWhole) (arg12 : Memref sig .tc .vmem S256x128 .f32) (harg12 : arg12.IsWhole) (arg13 : Memref sig .tc .vmem S256x128 .f32) (harg13 : arg13.IsWhole) (hc0 : cond0_0 i) (hc1 : ¬cond0_1 i) (hc2 : ¬cond0_2 i)
    (x1 : Vec Ideal S256x2560 .bf16) (x2 : Vec Ideal S2560x13824 .fp8e4m3) (x3 : Vec Ideal S1x13824 .f32) (x6 : Vec Ideal S256x6912 .fp8e4m3) (x7 : Vec Ideal S1x2x128 .f32) :
    View.canon (runA c i arg1 harg1 arg2 harg2 arg3 harg3 arg4 harg4 arg5 harg5 arg6 harg6 arg7 harg7 arg8 harg8 arg9 harg9 arg10 harg10 arg11 harg11 arg12 harg12 arg13 harg13 hc0 hc1 hc2 x1 x2 x3 x6 x7).2.1 = bL x1 := by
  unfold runA
  dsimp only
  refine (View.canon_unit_zero off3 _ _).trans (funext fun i => ?_)
  refine (show _ = lan (runA.sl.v947 c arg1 harg1 arg10 x1) i from rfl).trans ?_
  rw [show runA.sl.v947 c arg1 harg1 arg10 x1 = bS x1 from readCov_whole _ _ _ off2 _ (scales c arg1 harg1 x1)]
  exact lan_at (bS x1) (fun a => qs (row x1 a)) (fun _ => rfl) i

theorem L8 (c : Dev nD) (i : grid0.Coords) (arg1 : Memref sig .tc .vmem S256x2560 .bf16) (harg1 : arg1.IsWhole) (arg2 : Memref sig .tc .vmem S2560x13824 .fp8e4m3) (harg2 : arg2.IsWhole) (arg3 : Memref sig .tc .vmem S1x13824 .f32) (harg3 : arg3.IsWhole) (arg4 : Memref sig .tc .vmem S256x2560 .fp8e4m3) (harg4 : arg4.IsWhole) (arg5 : Memref sig .tc .vmem S1x2x128 .f32) (harg5 : arg5.IsWhole) (arg6 : Memref sig .tc .vmem S256x6912 .fp8e4m3) (harg6 : arg6.IsWhole) (arg7 : Memref sig .tc .vmem S1x2x128 .f32) (harg7 : arg7.IsWhole) (arg8 : Memref sig .tc .vmem S256x2560 .fp8e4m3) (harg8 : arg8.IsWhole) (arg9 : Memref sig .tc .vmem S256x128 .f32) (harg9 : arg9.IsWhole) (arg10 : Memref sig .tc .vmem S256x128 .f32) (harg10 : arg10.IsWhole) (arg11 : Memref sig .tc .vmem S256x6912 .f32) (harg11 : arg11.IsWhole) (arg12 : Memref sig .tc .vmem S256x128 .f32) (harg12 : arg12.IsWhole) (arg13 : Memref sig .tc .vmem S256x128 .f32) (harg13 : arg13.IsWhole) (hc0 : cond0_0 i) (hc1 : ¬cond0_1 i) (hc2 : ¬cond0_2 i)
    (x1 : Vec Ideal S256x2560 .bf16) (x2 : Vec Ideal S2560x13824 .fp8e4m3) (x3 : Vec Ideal S1x13824 .f32) (x6 : Vec Ideal S256x6912 .fp8e4m3) (x7 : Vec Ideal S1x2x128 .f32) :
    View.canon (runA c i arg1 harg1 arg2 harg2 arg3 harg3 arg4 harg4 arg5 harg5 arg6 harg6 arg7 harg7 arg8 harg8 arg9 harg9 arg10 harg10 arg11 harg11 arg12 harg12 arg13 harg13 hc0 hc1 hc2 x1 x2 x3 x6 x7).2.2.1 = bC x1 := by
  unfold runA
  dsimp only
  exact (View.canon_unit_zero off2 _ _).trans (pay94_eq _ |>.trans (readCov_whole _ _ _ off2 _ (codes c arg1 harg1 x1)))

theorem L9 (c : Dev nD) (i : grid0.Coords) (arg1 : Memref sig .tc .vmem S256x2560 .bf16) (harg1 : arg1.IsWhole) (arg2 : Memref sig .tc .vmem S2560x13824 .fp8e4m3) (harg2 : arg2.IsWhole) (arg3 : Memref sig .tc .vmem S1x13824 .f32) (harg3 : arg3.IsWhole) (arg4 : Memref sig .tc .vmem S256x2560 .fp8e4m3) (harg4 : arg4.IsWhole) (arg5 : Memref sig .tc .vmem S1x2x128 .f32) (harg5 : arg5.IsWhole) (arg6 : Memref sig .tc .vmem S256x6912 .fp8e4m3) (harg6 : arg6.IsWhole) (arg7 : Memref sig .tc .vmem S1x2x128 .f32) (harg7 : arg7.IsWhole) (arg8 : Memref sig .tc .vmem S256x2560 .fp8e4m3) (harg8 : arg8.IsWhole) (arg9 : Memref sig .tc .vmem S256x128 .f32) (harg9 : arg9.IsWhole) (arg10 : Memref sig .tc .vmem S256x128 .f32) (harg10 : arg10.IsWhole) (arg11 : Memref sig .tc .vmem S256x6912 .f32) (harg11 : arg11.IsWhole) (arg12 : Memref sig .tc .vmem S256x128 .f32) (harg12 : arg12.IsWhole) (arg13 : Memref sig .tc .vmem S256x128 .f32) (harg13 : arg13.IsWhole) (hc0 : cond0_0 i) (hc1 : ¬cond0_1 i) (hc2 : ¬cond0_2 i)
    (x1 : Vec Ideal S256x2560 .bf16) (x2 : Vec Ideal S2560x13824 .fp8e4m3) (x3 : Vec Ideal S1x13824 .f32) (x6 : Vec Ideal S256x6912 .fp8e4m3) (x7 : Vec Ideal S1x2x128 .f32) :
    View.canon (runA c i arg1 harg1 arg2 harg2 arg3 harg3 arg4 harg4 arg5 harg5 arg6 harg6 arg7 harg7 arg8 harg8 arg9 harg9 arg10 harg10 arg11 harg11 arg12 harg12 arg13 harg13 hc0 hc1 hc2 x1 x2 x3 x6 x7).2.2.2.1 = bS x1 := by
  unfold runA
  dsimp only
  exact (View.canon_unit_zero off2 _ _).trans (pay95_eq _ |>.trans (readCov_whole _ _ _ off2 _ (scales c arg1 harg1 x1)))

theorem L11 (c : Dev nD) (i : grid0.Coords) (arg1 : Memref sig .tc .vmem S256x2560 .bf16) (harg1 : arg1.IsWhole) (arg2 : Memref sig .tc .vmem S2560x13824 .fp8e4m3) (harg2 : arg2.IsWhole) (arg3 : Memref sig .tc .vmem S1x13824 .f32) (harg3 : arg3.IsWhole) (arg4 : Memref sig .tc .vmem S256x2560 .fp8e4m3) (harg4 : arg4.IsWhole) (arg5 : Memref sig .tc .vmem S1x2x128 .f32) (harg5 : arg5.IsWhole) (arg6 : Memref sig .tc .vmem S256x6912 .fp8e4m3) (harg6 : arg6.IsWhole) (arg7 : Memref sig .tc .vmem S1x2x128 .f32) (harg7 : arg7.IsWhole) (arg8 : Memref sig .tc .vmem S256x2560 .fp8e4m3) (harg8 : arg8.IsWhole) (arg9 : Memref sig .tc .vmem S256x128 .f32) (harg9 : arg9.IsWhole) (arg10 : Memref sig .tc .vmem S256x128 .f32) (harg10 : arg10.IsWhole) (arg11 : Memref sig .tc .vmem S256x6912 .f32) (harg11 : arg11.IsWhole) (arg12 : Memref sig .tc .vmem S256x128 .f32) (harg12 : arg12.IsWhole) (arg13 : Memref sig .tc .vmem S256x128 .f32) (harg13 : arg13.IsWhole) (hc0 : cond0_0 i) (hc1 : ¬cond0_1 i) (hc2 : ¬cond0_2 i)
    (x1 : Vec Ideal S256x2560 .bf16) (x2 : Vec Ideal S2560x13824 .fp8e4m3) (x3 : Vec Ideal S1x13824 .f32) (x6 : Vec Ideal S256x6912 .fp8e4m3) (x7 : Vec Ideal S1x2x128 .f32) :
    View.canon (runA c i arg1 harg1 arg2 harg2 arg3 harg3 arg4 harg4 arg5 harg5 arg6 harg6 arg7 harg7 arg8 harg8 arg9 harg9 arg10 harg10 arg11 harg11 arg12 harg12 arg13 harg13 hc0 hc1 hc2 x1 x2 x3 x6 x7).2.2.2.2.1 = fun _ => 0 := by
  unfold runA
  dsimp only
  refine (View.canon_unit_zero off2 _ _).trans ?_
  refine (show _ = shapeCast S256x6912 (broadcast S256x6912 (Scalar.ofBits (F := Ideal) .f32 0x00000000#32)) shapeCasts_S256x6912_S256x6912 from rfl).trans ?_
  rw [shapeCast_self]
  exact funext fun _ => Ideal.ofBits_zero_f32

theorem L12 (c : Dev nD) (i : grid0.Coords) (arg1 : Memref sig .tc .vmem S256x2560 .bf16) (harg1 : arg1.IsWhole) (arg2 : Memref sig .tc .vmem S2560x13824 .fp8e4m3) (harg2 : arg2.IsWhole) (arg3 : Memref sig .tc .vmem S1x13824 .f32) (harg3 : arg3.IsWhole) (arg4 : Memref sig .tc .vmem S256x2560 .fp8e4m3) (harg4 : arg4.IsWhole) (arg5 : Memref sig .tc .vmem S1x2x128 .f32) (harg5 : arg5.IsWhole) (arg6 : Memref sig .tc .vmem S256x6912 .fp8e4m3) (harg6 : arg6.IsWhole) (arg7 : Memref sig .tc .vmem S1x2x128 .f32) (harg7 : arg7.IsWhole) (arg8 : Memref sig .tc .vmem S256x2560 .fp8e4m3) (harg8 : arg8.IsWhole) (arg9 : Memref sig .tc .vmem S256x128 .f32) (harg9 : arg9.IsWhole) (arg10 : Memref sig .tc .vmem S256x128 .f32) (harg10 : arg10.IsWhole) (arg11 : Memref sig .tc .vmem S256x6912 .f32) (harg11 : arg11.IsWhole) (arg12 : Memref sig .tc .vmem S256x128 .f32) (harg12 : arg12.IsWhole) (arg13 : Memref sig .tc .vmem S256x128 .f32) (harg13 : arg13.IsWhole) (hc0 : cond0_0 i) (hc1 : ¬cond0_1 i) (hc2 : ¬cond0_2 i)
    (x1 : Vec Ideal S256x2560 .bf16) (x2 : Vec Ideal S2560x13824 .fp8e4m3) (x3 : Vec Ideal S1x13824 .f32) (x6 : Vec Ideal S256x6912 .fp8e4m3) (x7 : Vec Ideal S1x2x128 .f32) :
    View.canon (runA c i arg1 harg1 arg2 harg2 arg3 harg3 arg4 harg4 arg5 harg5 arg6 harg6 arg7 harg7 arg8 harg8 arg9 harg9 arg10 harg10 arg11 harg11 arg12 harg12 arg13 harg13 hc0 hc1 hc2 x1 x2 x3 x6 x7).2.2.2.2.2.1 = fun _ => 0 := by
  unfold runA
  dsimp only
  refine (View.canon_unit_zero off2 _ _).trans ?_
  refine (show _ = shapeCast S256x128 (broadcast S256x128 (Scalar.ofBits (F := Ideal) .f32 0x00000000#32)) shapeCasts_S256x128_S256x128 from rfl).trans ?_
  rw [shapeCast_self]
  exact funext fun _ => Ideal.ofBits_zero_f32

end Cert.Proof.UpValA
end
-- ==== Proof.UpRunB.lean ====
/- The gate/up kernel's body at the grid points 1, …, 128, run: which pieces it stores into which buffer. -/
module

public import proofs.«01_k».proof.Proof.UpRunA

@[expose] public section

set_option maxRecDepth 16384

noncomputable section

namespace Cert.Proof.UpRun

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the grid points 1, …, 128: the stores it makes into each buffer it fills (`L4`, …: the pieces, last first, of the
    argument of that number), with the proof that from whole buffers — those it reads before storing at named contents
    (`x1`, …), the others at any — it runs to the end, leaving those pieces written and the buffers it only reads as
    they were. -/
noncomputable def runB (c : Dev nD) (i : grid0.Coords) (arg1 : Memref sig .tc .vmem S256x2560 .bf16) (harg1 : arg1.IsWhole) (arg2 : Memref sig .tc .vmem S2560x13824 .fp8e4m3) (harg2 : arg2.IsWhole) (arg3 : Memref sig .tc .vmem S1x13824 .f32) (harg3 : arg3.IsWhole) (arg4 : Memref sig .tc .vmem S256x2560 .fp8e4m3) (harg4 : arg4.IsWhole) (arg5 : Memref sig .tc .vmem S1x2x128 .f32) (harg5 : arg5.IsWhole) (arg6 : Memref sig .tc .vmem S256x6912 .fp8e4m3) (harg6 : arg6.IsWhole) (arg7 : Memref sig .tc .vmem S1x2x128 .f32) (harg7 : arg7.IsWhole) (arg8 : Memref sig .tc .vmem S256x2560 .fp8e4m3) (harg8 : arg8.IsWhole) (arg9 : Memref sig .tc .vmem S256x128 .f32) (harg9 : arg9.IsWhole) (arg10 : Memref sig .tc .vmem S256x128 .f32) (harg10 : arg10.IsWhole) (arg11 : Memref sig .tc .vmem S256x6912 .f32) (harg11 : arg11.IsWhole) (arg12 : Memref sig .tc .vmem S256x128 .f32) (harg12 : arg12.IsWhole) (arg13 : Memref sig .tc .vmem S256x128 .f32) (harg13 : arg13.IsWhole) (hc0 : ¬cond0_0 i) (hc1 : cond0_1 i) (hc2 : ¬cond0_2 i)
    (x1 : Vec F S256x2560 .bf16) (x2 : Vec F S2560x13824 .fp8e4m3) (x3 : Vec F S1x13824 .f32) (x8 : Vec F S256x2560 .fp8e4m3) (x9 : Vec F S256x128 .f32) (x11 : Vec F S256x6912 .f32) (x12 : Vec F S256x128 .f32) :
    Σ' (L4 : List (View.Piece (Elt F) S256x2560 .fp8e4m3)), Σ' (L5 : List (View.Piece (Elt F) S1x2x128 .f32)), Σ' (L6 : List (View.Piece (Elt F) S256x6912 .fp8e4m3)), Σ' (L7 : List (View.Piece (Elt F) S1x2x128 .f32)), Σ' (L8 : List (View.Piece (Elt F) S256x2560 .fp8e4m3)), Σ' (L9 : List (View.Piece (Elt F) S256x128 .f32)), Σ' (L11 : List (View.Piece (Elt F) S256x6912 .f32)), { L12 : List (View.Piece (Elt F) S256x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ owns (c : Thread nD τ) arg8 fullShare x8 ∗ owns (c : Thread nD τ) arg9 fullShare x9 ∗ (∃ d, owns (c : Thread nD τ) arg10 fullShare d) ∗ owns (c : Thread nD τ) arg11 fullShare x11 ∗ owns (c : Thread nD τ) arg12 fullShare x12 ∗ (∃ d, owns (c : Thread nD τ) arg13 fullShare d)
            ∗ (iprop(owns (c : Thread nD τ) arg1 fullShare x1 ∗ owns (c : Thread nD τ) arg2 fullShare x2 ∗ owns (c : Thread nD τ) arg3 fullShare x3 ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ d, owns (c : Thread nD τ) arg10 fullShare d) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ d, owns (c : Thread nD τ) arg13 fullShare d)) -∗ K ⟨⟩))
          ⊢ wp frame (wpE (defs₀ (F := F)) Variants.none c none) E (cc0_gate_up i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, ?_, ?_, fun E K => ?run⟩
  case run =>
    simp only [cc0_gate_up_eq_skeleton]; unfold cc0_gate_up_skel
    simp only [k0_part83_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton]
    unfold owns
    iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%f8, %hf8, H8⟩, ⟨%f9, %hf9, H9⟩, ⟨%d10, %f10, -, H10⟩, ⟨%f11, %hf11, H11⟩, ⟨%f12, %hf12, H12⟩, ⟨%d13, %f13, -, H13⟩, Hk⟩
    obtain rfl := harg1.eq_unread hf1; obtain rfl := harg2.eq_unread hf2; obtain rfl := harg3.eq_unread hf3; obtain rfl := harg8.eq_unread hf8; obtain rfl := harg9.eq_unread hf9; obtain rfl := harg11.eq_unread hf11; obtain rfl := harg12.eq_unread hf12
    sl_exec (disch := first | sl_exact hc0 | sl_exact hc1 | sl_exact hc2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; iexact H4
    isplitl [H5]
    · iexists _; iexact H5
    isplitl [H6]
    · iexists _; iexact H6
    isplitl [H7]
    · iexists _; iexact H7
    isplitl [H8]
    · iexists _; iexact H8
    isplitl [H9]
    · iexists _; iexact H9
    isplitl [H10]
    · iexists _, _; isplitr; swap; · iexact H10
      ipureintro; rfl
    isplitl [H11]
    · iexists _; iexact H11
    isplitl [H12]
    · iexists _; iexact H12
    iexists _, _; isplitr; swap; · iexact H13
    ipureintro; rfl

end Cert.Proof.UpRun

end
-- ==== Proof.UpValB.lean ====
/-
  Hand-written, untrusted. What a grid step of the gate/up kernel in the middle leaves in each buffer it writes.
-/
module

public import proofs.«01_k».proof.Proof.UpTile
public import proofs.«01_k».proof.Proof.UpRunB

@[expose] public section

set_option maxRecDepth 16384

noncomputable section

namespace Cert.Proof.UpValB

open Cert.UpIdeal Cert.UpIdeal.Gen
open Idealize.ShloMosaic Idealize.ShloMosaic.TcCoe Idealize.SL.Sem
open Cert.Proof.UpVec Cert.Proof.UpExp Cert.Proof.UpBlk Cert.Proof.UpTile Cert.Proof.UpRun

theorem pay4_eq (v : Vec Ideal S256x2560 .fp8e4m3) : k0_pay4 v = v := (shapeCast_self _ _).trans (shapeCast_self _ _)
theorem pay5_eq (v : Vec Ideal S256x128 .f32) : k0_pay5 v = v := shapeCast_self _ _

section
variable (c : Dev nD) (arg1 : Memref sig .tc .vmem S256x2560 .bf16) (harg1 : arg1.IsWhole) (x1 : Vec Ideal S256x2560 .bf16)

theorem codes : View.canon (runB.sl.H4_8 c arg1 harg1 x1) = bC x1 := by
  unfold runB.sl.H4_8
  refine canon_all (S := S256x2560) (e := .fp8e4m3) (bC x1) _ ![32, 2560] ?_ ?_
  · refine pc (fun x => chQ_tile arg1 harg1 x1 224 inb_S256x2560_S32x2560_224_0 x) ?_
    refine pc (fun x => chQ_tile arg1 harg1 x1 192 inb_S256x2560_S32x2560_192_0 x) ?_
    refine pc (fun x => chQ_tile arg1 harg1 x1 160 inb_S256x2560_S32x2560_160_0 x) ?_
    refine pc (fun x => chQ_tile arg1 harg1 x1 128 inb_S256x2560_S32x2560_128_0 x) ?_
    refine pc (fun x => chQ_tile arg1 harg1 x1 96 inb_S256x2560_S32x2560_96_0 x) ?_
    refine pc (fun x => chQ_tile arg1 harg1 x1 64 inb_S256x2560_S32x2560_64_0 x) ?_
    refine pc (fun x => chQ_tile arg1 harg1 x1 32 inb_S256x2560_S32x2560_32_0 x) ?_
    refine pc (fun x => chQ_tile arg1 harg1 x1 0 inb_S256x2560_S32x2560_0_0 x) ?_
    exact pn
  · rfl

theorem scales : View.canon (runB.sl.H10_8 c arg1 harg1 x1) = bS x1 := by
  unfold runB.sl.H10_8
  refine canon_all (S := S256x128) (e := .f32) (bS x1) _ ![32, 128] ?_ ?_
  · refine pc (fun x => chS_tile arg1 harg1 x1 224 inb_S256x2560_S32x2560_224_0 inb_S256x128_S32x128_224_0 x) ?_
    refine pc (fun x => chS_tile arg1 harg1 x1 192 inb_S256x2560_S32x2560_192_0 inb_S256x128_S32x128_192_0 x) ?_
    refine pc (fun x => chS_tile arg1 harg1 x1 160 inb_S256x2560_S32x2560_160_0 inb_S256x128_S32x128_160_0 x) ?_
    refine pc (fun x => chS_tile arg1 harg1 x1 128 inb_S256x2560_S32x2560_128_0 inb_S256x128_S32x128_128_0 x) ?_
    refine pc (fun x => chS_tile arg1 harg1 x1 96 inb_S256x2560_S32x2560_96_0 inb_S256x128_S32x128_96_0 x) ?_
    refine pc (fun x => chS_tile arg1 harg1 x1 64 inb_S256x2560_S32x2560_64_0 inb_S256x128_S32x128_64_0 x) ?_
    refine pc (fun x => chS_tile arg1 harg1 x1 32 inb_S256x2560_S32x2560_32_0 inb_S256x128_S32x128_32_0 x) ?_
    refine pc (fun x => chS_tile arg1 harg1 x1 0 inb_S256x2560_S32x2560_0_0 inb_S256x128_S32x128_0_0 x) ?_
    exact pn
  · rfl
end

section
variable (c : Dev nD) (arg12 : Memref sig .tc .vmem S256x128 .f32) (harg12 : arg12.IsWhole) (arg13 : Memref sig .tc .vmem S256x128 .f32)
  (x12 : Vec Ideal S256x128 .f32) (x11 : Vec Ideal S256x6912 .f32)
  (hA : ∀ a, rmax (row x12 a) * Ideal.ofBits .f32 0x3B124925#32 = T (row x11 a))

include hA
theorem inverse : ∀ i, runB.sl.v130 c arg12 harg12 arg13 x12 i = RI (T (row x11 (i 0))) := fun i => by
  refine (congrFun (View.readCov_unit_zero _ off2 _ _) i).trans ?_
  refine (show _ = hin (View.readAt (Elt Ideal) arg12.view (Rect.unit (s := S256x128) ![0, 0] ![256, 128] inb_S256x128_S256x128_0_0).toLoadRect (harg12.unread x12)) i from rfl).trans ?_
  rw [show View.readAt (Elt Ideal) arg12.view (Rect.unit (s := S256x128) ![0, 0] ![256, 128] inb_S256x128_S256x128_0_0).toLoadRect (harg12.unread x12) = x12 from
    rd_whole arg12 harg12 x12 _ off2 _]
  exact hin_at x12 i _ (hA _)
end

theorem L4 (c : Dev nD) (i : grid0.Coords) (arg1 : Memref sig .tc .vmem S256x2560 .bf16) (harg1 : arg1.IsWhole) (arg2 : Memref sig .tc .vmem S2560x13824 .fp8e4m3) (harg2 : arg2.IsWhole) (arg3 : Memref sig .tc .vmem S1x13824 .f32) (harg3 : arg3.IsWhole) (arg4 : Memref sig .tc .vmem S256x2560 .fp8e4m3) (harg4 : arg4.IsWhole) (arg5 : Memref sig .tc .vmem S1x2x128 .f32) (harg5 : arg5.IsWhole) (arg6 : Memref sig .tc .vmem S256x6912 .fp8e4m3) (harg6 : arg6.IsWhole) (arg7 : Memref sig .tc .vmem S1x2x128 .f32) (harg7 : arg7.IsWhole) (arg8 : Memref sig .tc .vmem S256x2560 .fp8e4m3) (harg8 : arg8.IsWhole) (arg9 : Memref sig .tc .vmem S256x128 .f32) (harg9 : arg9.IsWhole) (arg10 : Memref sig .tc .vmem S256x128 .f32) (harg10 : arg10.IsWhole) (arg11 : Memref sig .tc .vmem S256x6912 .f32) (harg11 : arg11.IsWhole) (arg12 : Memref sig .tc .vmem S256x128 .f32) (harg12 : arg12.IsWhole) (arg13 : Memref sig .tc .vmem S256x128 .f32) (harg13 : arg13.IsWhole) (hc0 : ¬cond0_0 i) (hc1 : cond0_1 i) (hc2 : ¬cond0_2 i)
    (x1 : Vec Ideal S256x2560 .bf16) (x2 : Vec Ideal S2560x13824 .fp8e4m3) (x3 : Vec Ideal S1x13824 .f32) (x8 : Vec Ideal S256x2560 .fp8e4m3) (x9 : Vec Ideal S256x128 .f32) (x11 : Vec Ideal S256x6912 .f32) (x12 : Vec Ideal S256x128 .f32) :
    View.canon (runB c i arg1 harg1 arg2 harg2 arg3 harg3 arg4 harg4 arg5 harg5 arg6 harg6 arg7 harg7 arg8 harg8 arg9 harg9 arg10 harg10 arg11 harg11 arg12 harg12 arg13 harg13 hc0 hc1 hc2 x1 x2 x3 x8 x9 x11 x12).1 = bC x1 := by
  unfold runB
  dsimp only
  exact codes c arg1 harg1 x1

theorem L5 (c : Dev nD) (i : grid0.Coords) (arg1 : Memref sig .tc .vmem S256x2560 .bf16) (harg1 : arg1.IsWhole) (arg2 : Memref sig .tc .vmem S2560x13824 .fp8e4m3) (harg2 : arg2.IsWhole) (arg3 : Memref sig .tc .vmem S1x13824 .f32) (harg3 : arg3.IsWhole) (arg4 : Memref sig .tc .vmem S256x2560 .fp8e4m3) (harg4 : arg4.IsWhole) (arg5 : Memref sig .tc .vmem S1x2x128 .f32) (harg5 : arg5.IsWhole) (arg6 : Memref sig .tc .vmem S256x6912 .fp8e4m3) (harg6 : arg6.IsWhole) (arg7 : Memref sig .tc .vmem S1x2x128 .f32) (harg7 : arg7.IsWhole) (arg8 : Memref sig .tc .vmem S256x2560 .fp8e4m3) (harg8 : arg8.IsWhole) (arg9 : Memref sig .tc .vmem S256x128 .f32) (harg9 : arg9.IsWhole) (arg10 : Memref sig .tc .vmem S256x128 .f32) (harg10 : arg10.IsWhole) (arg11 : Memref sig .tc .vmem S256x6912 .f32) (harg11 : arg11.IsWhole) (arg12 : Memref sig .tc .vmem S256x128 .f32) (harg12 : arg12.IsWhole) (arg13 : Memref sig .tc .vmem S256x128 .f32) (harg13 : arg13.IsWhole) (hc0 : ¬cond0_0 i) (hc1 : cond0_1 i) (hc2 : ¬cond0_2 i)
    (x1 : Vec Ideal S256x2560 .bf16) (x2 : Vec Ideal S2560x13824 .fp8e4m3) (x3 : Vec Ideal S1x13824 .f32) (x8 : Vec Ideal S256x2560 .fp8e4m3) (x9 : Vec Ideal S256x128 .f32) (x11 : Vec Ideal S256x6912 .f32) (x12 : Vec Ideal S256x128 .f32) :
    View.canon (runB c i arg1 harg1 arg2 harg2 arg3 harg3 arg4 harg4 arg5 harg5 arg6 harg6 arg7 harg7 arg8 harg8 arg9 harg9 arg10 harg10 arg11 harg11 arg12 harg12 arg13 harg13 hc0 hc1 hc2 x1 x2 x3 x8 x9 x11 x12).2.1 = bL x1 := by
  unfold runB
  dsimp only
  refine (View.canon_unit_zero off3 _ _).trans (funext fun i => ?_)
  refine (show _ = lan (runB.sl.v2225 c arg1 harg1 arg10 x1) i from rfl).trans ?_
  rw [show runB.sl.v2225 c arg1 harg1 arg10 x1 = bS x1 from readCov_whole _ _ _ off2 _ (scales c arg1 harg1 x1)]
  exact lan_at (bS x1) (fun a => qs (row x1 a)) (fun _ => rfl) i

theorem L6 (c : Dev nD) (i : grid0.Coords) (arg1 : Memref sig .tc .vmem S256x2560 .bf16) (harg1 : arg1.IsWhole) (arg2 : Memref sig .tc .vmem S2560x13824 .fp8e4m3) (harg2 : arg2.IsWhole) (arg3 : Memref sig .tc .vmem S1x13824 .f32) (harg3 : arg3.IsWhole) (arg4 : Memref sig .tc .vmem S256x2560 .fp8e4m3) (harg4 : arg4.IsWhole) (arg5 : Memref sig .tc .vmem S1x2x128 .f32) (harg5 : arg5.IsWhole) (arg6 : Memref sig .tc .vmem S256x6912 .fp8e4m3) (harg6 : arg6.IsWhole) (arg7 : Memref sig .tc .vmem S1x2x128 .f32) (harg7 : arg7.IsWhole) (arg8 : Memref sig .tc .vmem S256x2560 .fp8e4m3) (harg8 : arg8.IsWhole) (arg9 : Memref sig .tc .vmem S256x128 .f32) (harg9 : arg9.IsWhole) (arg10 : Memref sig .tc .vmem S256x128 .f32) (harg10 : arg10.IsWhole) (arg11 : Memref sig .tc .vmem S256x6912 .f32) (harg11 : arg11.IsWhole) (arg12 : Memref sig .tc .vmem S256x128 .f32) (harg12 : arg12.IsWhole) (arg13 : Memref sig .tc .vmem S256x128 .f32) (harg13 : arg13.IsWhole) (hc0 : ¬cond0_0 i) (hc1 : cond0_1 i) (hc2 : ¬cond0_2 i)
    (x1 : Vec Ideal S256x2560 .bf16) (x2 : Vec Ideal S2560x13824 .fp8e4m3) (x3 : Vec Ideal S1x13824 .f32) (x8 : Vec Ideal S256x2560 .fp8e4m3) (x9 : Vec Ideal S256x128 .f32) (x11 : Vec Ideal S256x6912 .f32) (x12 : Vec Ideal S256x128 .f32)
    (hA : ∀ a, rmax (row x12 a) * Ideal.ofBits .f32 0x3B124925#32 = T (row x11 a)) :
    View.canon (runB c i arg1 harg1 arg2 harg2 arg3 harg3 arg4 harg4 arg5 harg5 arg6 harg6 arg7 harg7 arg8 harg8 arg9 harg9 arg10 harg10 arg11 harg11 arg12 harg12 arg13 harg13 hc0 hc1 hc2 x1 x2 x3 x8 x9 x11 x12).2.2.1 = bC x11 := by
  unfold runB
  dsimp only
  have hn := inverse c arg12 harg12 arg13 x12 x11 hA
  refine canon_all (S := S256x6912) (e := .fp8e4m3) (bC x11) _ ![256, 256] ?_ ?_
  · refine pc (fun x => hq_tile arg11 harg11 x11 6656 inb_S256x6912_S256x256_0_6656 _ hn x) ?_
    refine pc (fun x => hq_tile arg11 harg11 x11 6400 inb_S256x6912_S256x256_0_6400 _ hn x) ?_
    refine pc (fun x => hq_tile arg11 harg11 x11 6144 inb_S256x6912_S256x256_0_6144 _ hn x) ?_
    refine pc (fun x => hq_tile arg11 harg11 x11 5888 inb_S256x6912_S256x256_0_5888 _ hn x) ?_
    refine pc (fun x => hq_tile arg11 harg11 x11 5632 inb_S256x6912_S256x256_0_5632 _ hn x) ?_
    refine pc (fun x => hq_tile arg11 harg11 x11 5376 inb_S256x6912_S256x256_0_5376 _ hn x) ?_
    refine pc (fun x => hq_tile arg11 harg11 x11 5120 inb_S256x6912_S256x256_0_5120 _ hn x) ?_
    refine pc (fun x => hq_tile arg11 harg11 x11 4864 inb_S256x6912_S256x256_0_4864 _ hn x) ?_
    refine pc (fun x => hq_tile arg11 harg11 x11 4608 inb_S256x6912_S256x256_0_4608 _ hn x) ?_
    refine pc (fun x => hq_tile arg11 harg11 x11 4352 inb_S256x6912_S256x256_0_4352 _ hn x) ?_
    refine pc (fun x => hq_tile arg11 harg11 x11 4096 inb_S256x6912_S256x256_0_4096 _ hn x) ?_
    refine pc (fun x => hq_tile arg11 harg11 x11 3840 inb_S256x6912_S256x256_0_3840 _ hn x) ?_
    refine pc (fun x => hq_tile arg11 harg11 x11 3584 inb_S256x6912_S256x256_0_3584 _ hn x) ?_
    refine pc (fun x => hq_tile arg11 harg11 x11 3328 inb_S256x6912_S256x256_0_3328 _ hn x) ?_
    refine pc (fun x => hq_tile arg11 harg11 x11 3072 inb_S256x6912_S256x256_0_3072 _ hn x) ?_
    refine pc (fun x => hq_tile arg11 harg11 x11 2816 inb_S256x6912_S256x256_0_2816 _ hn x) ?_
    refine pc (fun x => hq_tile arg11 harg11 x11 2560 inb_S256x6912_S256x256_0_2560 _ hn x) ?_
    refine pc (fun x => hq_tile arg11 harg11 x11 2304 inb_S256x6912_S256x256_0_2304 _ hn x) ?_
    refine pc (fun x => hq_tile arg11 harg11 x11 2048 inb_S256x6912_S256x256_0_2048 _ hn x) ?_
    refine pc (fun x => hq_tile arg11 harg11 x11 1792 inb_S256x6912_S256x256_0_1792 _ hn x) ?_
    refine pc (fun x => hq_tile arg11 harg11 x11 1536 inb_S256x6912_S256x256_0_1536 _ hn x) ?_
    refine pc (fun x => hq_tile arg11 harg11 x11 1280 inb_S256x6912_S256x256_0_1280 _ hn x) ?_
    refine pc (fun x => hq_tile arg11 harg11 x11 1024 inb_S256x6912_S256x256_0_1024 _ hn x) ?_
    refine pc (fun x => hq_tile arg11 harg11 x11 768 inb_S256x6912_S256x256_0_768 _ hn x) ?_
    refine pc (fun x => hq_tile arg11 harg11 x11 512 inb_S256x6912_S256x256_0_512 _ hn x) ?_
    refine pc (fun x => hq_tile arg11 harg11 x11 256 inb_S256x6912_S256x256_0_256 _ hn x) ?_
    refine pc (fun x => hq_tile arg11 harg11 x11 0 inb_S256x6912_S256x256_0_0 _ hn x) ?_
    exact pn
  · rfl

theorem L7 (c : Dev nD) (i : grid0.Coords) (arg1 : Memref sig .tc .vmem S256x2560 .bf16) (harg1 : arg1.IsWhole) (arg2 : Memref sig .tc .vmem S2560x13824 .fp8e4m3) (harg2 : arg2.IsWhole) (arg3 : Memref sig .tc .vmem S1x13824 .f32) (harg3 : arg3.IsWhole) (arg4 : Memref sig .tc .vmem S256x2560 .fp8e4m3) (harg4 : arg4.IsWhole) (arg5 : Memref sig .tc .vmem S1x2x128 .f32) (harg5 : arg5.IsWhole) (arg6 : Memref sig .tc .vmem S256x6912 .fp8e4m3) (harg6 : arg6.IsWhole) (arg7 : Memref sig .tc .vmem S1x2x128 .f32) (harg7 : arg7.IsWhole) (arg8 : Memref sig .tc .vmem S256x2560 .fp8e4m3) (harg8 : arg8.IsWhole) (arg9 : Memref sig .tc .vmem S256x128 .f32) (harg9 : arg9.IsWhole) (arg10 : Memref sig .tc .vmem S256x128 .f32) (harg10 : arg10.IsWhole) (arg11 : Memref sig .tc .vmem S256x6912 .f32) (harg11 : arg11.IsWhole) (arg12 : Memref sig .tc .vmem S256x128 .f32) (harg12 : arg12.IsWhole) (arg13 : Memref sig .tc .vmem S256x128 .f32) (harg13 : arg13.IsWhole) (hc0 : ¬cond0_0 i) (hc1 : cond0_1 i) (hc2 : ¬cond0_2 i)
    (x1 : Vec Ideal S256x2560 .bf16) (x2 : Vec Ideal S2560x13824 .fp8e4m3) (x3 : Vec Ideal S1x13824 .f32) (x8 : Vec Ideal S256x2560 .fp8e4m3) (x9 : Vec Ideal S256x128 .f32) (x11 : Vec Ideal S256x6912 .f32) (x12 : Vec Ideal S256x128 .f32)
    (hA : ∀ a, rmax (row x12 a) * Ideal.ofBits .f32 0x3B124925#32 = T (row x11 a)) :
    View.canon (runB c i arg1 harg1 arg2 harg2 arg3 harg3 arg4 harg4 arg5 harg5 arg6 harg6 arg7 harg7 arg8 harg8 arg9 harg9 arg10 harg10 arg11 harg11 arg12 harg12 arg13 harg13 hc0 hc1 hc2 x1 x2 x3 x8 x9 x11 x12).2.2.2.1 = bL x11 := by
  unfold runB
  dsimp only
  refine (View.canon_unit_zero off3 _ _).trans (funext fun i => ?_)
  refine (show _ = hla (View.readAt (Elt Ideal) arg12.view (Rect.unit (s := S256x128) ![0, 0] ![256, 128] inb_S256x128_S256x128_0_0).toLoadRect (harg12.unread x12)) i from rfl).trans ?_
  rw [show View.readAt (Elt Ideal) arg12.view (Rect.unit (s := S256x128) ![0, 0] ![256, 128] inb_S256x128_S256x128_0_0).toLoadRect (harg12.unread x12) = x12 from
    rd_whole arg12 harg12 x12 _ off2 _, hla_eq]
  exact lan_at (hsc x12) (fun a => RS (T (row x11 a))) (fun j => hsc_at x12 j _ (hA _)) i

theorem L8 (c : Dev nD) (i : grid0.Coords) (arg1 : Memref sig .tc .vmem S256x2560 .bf16) (harg1 : arg1.IsWhole) (arg2 : Memref sig .tc .vmem S2560x13824 .fp8e4m3) (harg2 : arg2.IsWhole) (arg3 : Memref sig .tc .vmem S1x13824 .f32) (harg3 : arg3.IsWhole) (arg4 : Memref sig .tc .vmem S256x2560 .fp8e4m3) (harg4 : arg4.IsWhole) (arg5 : Memref sig .tc .vmem S1x2x128 .f32) (harg5 : arg5.IsWhole) (arg6 : Memref sig .tc .vmem S256x6912 .fp8e4m3) (harg6 : arg6.IsWhole) (arg7 : Memref sig .tc .vmem S1x2x128 .f32) (harg7 : arg7.IsWhole) (arg8 : Memref sig .tc .vmem S256x2560 .fp8e4m3) (harg8 : arg8.IsWhole) (arg9 : Memref sig .tc .vmem S256x128 .f32) (harg9 : arg9.IsWhole) (arg10 : Memref sig .tc .vmem S256x128 .f32) (harg10 : arg10.IsWhole) (arg11 : Memref sig .tc .vmem S256x6912 .f32) (harg11 : arg11.IsWhole) (arg12 : Memref sig .tc .vmem S256x128 .f32) (harg12 : arg12.IsWhole) (arg13 : Memref sig .tc .vmem S256x128 .f32) (harg13 : arg13.IsWhole) (hc0 : ¬cond0_0 i) (hc1 : cond0_1 i) (hc2 : ¬cond0_2 i)
    (x1 : Vec Ideal S256x2560 .bf16) (x2 : Vec Ideal S2560x13824 .fp8e4m3) (x3 : Vec Ideal S1x13824 .f32) (x8 : Vec Ideal S256x2560 .fp8e4m3) (x9 : Vec Ideal S256x128 .f32) (x11 : Vec Ideal S256x6912 .f32) (x12 : Vec Ideal S256x128 .f32) :
    View.canon (runB c i arg1 harg1 arg2 harg2 arg3 harg3 arg4 harg4 arg5 harg5 arg6 harg6 arg7 harg7 arg8 harg8 arg9 harg9 arg10 harg10 arg11 harg11 arg12 harg12 arg13 harg13 hc0 hc1 hc2 x1 x2 x3 x8 x9 x11 x12).2.2.2.2.1 = bC x1 := by
  unfold runB
  dsimp only
  exact (View.canon_unit_zero off2 _ _).trans (pay4_eq _ |>.trans (readCov_whole _ _ _ off2 _ (codes c arg1 harg1 x1)))

theorem L9 (c : Dev nD) (i : grid0.Coords) (arg1 : Memref sig .tc .vmem S256x2560 .bf16) (harg1 : arg1.IsWhole) (arg2 : Memref sig .tc .vmem S2560x13824 .fp8e4m3) (harg2 : arg2.IsWhole) (arg3 : Memref sig .tc .vmem S1x13824 .f32) (harg3 : arg3.IsWhole) (arg4 : Memref sig .tc .vmem S256x2560 .fp8e4m3) (harg4 : arg4.IsWhole) (arg5 : Memref sig .tc .vmem S1x2x128 .f32) (harg5 : arg5.IsWhole) (arg6 : Memref sig .tc .vmem S256x6912 .fp8e4m3) (harg6 : arg6.IsWhole) (arg7 : Memref sig .tc .vmem S1x2x128 .f32) (harg7 : arg7.IsWhole) (arg8 : Memref sig .tc .vmem S256x2560 .fp8e4m3) (harg8 : arg8.IsWhole) (arg9 : Memref sig .tc .vmem S256x128 .f32) (harg9 : arg9.IsWhole) (arg10 : Memref sig .tc .vmem S256x128 .f32) (harg10 : arg10.IsWhole) (arg11 : Memref sig .tc .vmem S256x6912 .f32) (harg11 : arg11.IsWhole) (arg12 : Memref sig .tc .vmem S256x128 .f32) (harg12 : arg12.IsWhole) (arg13 : Memref sig .tc .vmem S256x128 .f32) (harg13 : arg13.IsWhole) (hc0 : ¬cond0_0 i) (hc1 : cond0_1 i) (hc2 : ¬cond0_2 i)
    (x1 : Vec Ideal S256x2560 .bf16) (x2 : Vec Ideal S2560x13824 .fp8e4m3) (x3 : Vec Ideal S1x13824 .f32) (x8 : Vec Ideal S256x2560 .fp8e4m3) (x9 : Vec Ideal S256x128 .f32) (x11 : Vec Ideal S256x6912 .f32) (x12 : Vec Ideal S256x128 .f32) :
    View.canon (runB c i arg1 harg1 arg2 harg2 arg3 harg3 arg4 harg4 arg5 harg5 arg6 harg6 arg7 harg7 arg8 harg8 arg9 harg9 arg10 harg10 arg11 harg11 arg12 harg12 arg13 harg13 hc0 hc1 hc2 x1 x2 x3 x8 x9 x11 x12).2.2.2.2.2.1 = bS x1 := by
  unfold runB
  dsimp only
  exact (View.canon_unit_zero off2 _ _).trans (pay5_eq _ |>.trans (readCov_whole _ _ _ off2 _ (scales c arg1 harg1 x1)))

theorem L11 (c : Dev nD) (i : grid0.Coords) (arg1 : Memref sig .tc .vmem S256x2560 .bf16) (harg1 : arg1.IsWhole) (arg2 : Memref sig .tc .vmem S2560x13824 .fp8e4m3) (harg2 : arg2.IsWhole) (arg3 : Memref sig .tc .vmem S1x13824 .f32) (harg3 : arg3.IsWhole) (arg4 : Memref sig .tc .vmem S256x2560 .fp8e4m3) (harg4 : arg4.IsWhole) (arg5 : Memref sig .tc .vmem S1x2x128 .f32) (harg5 : arg5.IsWhole) (arg6 : Memref sig .tc .vmem S256x6912 .fp8e4m3) (harg6 : arg6.IsWhole) (arg7 : Memref sig .tc .vmem S1x2x128 .f32) (harg7 : arg7.IsWhole) (arg8 : Memref sig .tc .vmem S256x2560 .fp8e4m3) (harg8 : arg8.IsWhole) (arg9 : Memref sig .tc .vmem S256x128 .f32) (harg9 : arg9.IsWhole) (arg10 : Memref sig .tc .vmem S256x128 .f32) (harg10 : arg10.IsWhole) (arg11 : Memref sig .tc .vmem S256x6912 .f32) (harg11 : arg11.IsWhole) (arg12 : Memref sig .tc .vmem S256x128 .f32) (harg12 : arg12.IsWhole) (arg13 : Memref sig .tc .vmem S256x128 .f32) (harg13 : arg13.IsWhole) (hc0 : ¬cond0_0 i) (hc1 : cond0_1 i) (hc2 : ¬cond0_2 i)
    (x1 : Vec Ideal S256x2560 .bf16) (x2 : Vec Ideal S2560x13824 .fp8e4m3) (x3 : Vec Ideal S1x13824 .f32) (x8 : Vec Ideal S256x2560 .fp8e4m3) (x9 : Vec Ideal S256x128 .f32) (x11 : Vec Ideal S256x6912 .f32) (x12 : Vec Ideal S256x128 .f32)
    (f : Fin 256 → EReal) (hf : ∀ i, x9 i = f (i 0)) :
    View.canon (runB c i arg1 harg1 arg2 harg2 arg3 harg3 arg4 harg4 arg5 harg5 arg6 harg6 arg7 harg7 arg8 harg8 arg9 harg9 arg10 harg10 arg11 harg11 arg12 harg12 arg13 harg13 hc0 hc1 hc2 x1 x2 x3 x8 x9 x11 x12).2.2.2.2.2.2.1 = bH x8 f x2 x3 := by
  unfold runB
  dsimp only
  refine canon_all (S := S256x6912) (e := .f32) (bH x8 f x2 x3) _ ![256, 256] ?_ ?_
  · refine pc (fun x => hn_tile arg9 harg9 x9 arg8 harg8 x8 arg2 harg2 x2 arg3 harg3 x3 6656 13568 inb_S256x128_S256x128_0_0 inb_S256x2560_S256x2560_0_0 inb_S2560x13824_S2560x256_0_6656 inb_S2560x13824_S2560x256_0_13568 inb_S1x13824_S1x256_0_6656 inb_S1x13824_S1x256_0_13568 f hf rfl inb_S256x6912_S256x256_0_6656 x) ?_
    refine pc (fun x => hn_tile arg9 harg9 x9 arg8 harg8 x8 arg2 harg2 x2 arg3 harg3 x3 6400 13312 inb_S256x128_S256x128_0_0 inb_S256x2560_S256x2560_0_0 inb_S2560x13824_S2560x256_0_6400 inb_S2560x13824_S2560x256_0_13312 inb_S1x13824_S1x256_0_6400 inb_S1x13824_S1x256_0_13312 f hf rfl inb_S256x6912_S256x256_0_6400 x) ?_
    refine pc (fun x => hn_tile arg9 harg9 x9 arg8 harg8 x8 arg2 harg2 x2 arg3 harg3 x3 6144 13056 inb_S256x128_S256x128_0_0 inb_S256x2560_S256x2560_0_0 inb_S2560x13824_S2560x256_0_6144 inb_S2560x13824_S2560x256_0_13056 inb_S1x13824_S1x256_0_6144 inb_S1x13824_S1x256_0_13056 f hf rfl inb_S256x6912_S256x256_0_6144 x) ?_
    refine pc (fun x => hn_tile arg9 harg9 x9 arg8 harg8 x8 arg2 harg2 x2 arg3 harg3 x3 5888 12800 inb_S256x128_S256x128_0_0 inb_S256x2560_S256x2560_0_0 inb_S2560x13824_S2560x256_0_5888 inb_S2560x13824_S2560x256_0_12800 inb_S1x13824_S1x256_0_5888 inb_S1x13824_S1x256_0_12800 f hf rfl inb_S256x6912_S256x256_0_5888 x) ?_
    refine pc (fun x => hn_tile arg9 harg9 x9 arg8 harg8 x8 arg2 harg2 x2 arg3 harg3 x3 5632 12544 inb_S256x128_S256x128_0_0 inb_S256x2560_S256x2560_0_0 inb_S2560x13824_S2560x256_0_5632 inb_S2560x13824_S2560x256_0_12544 inb_S1x13824_S1x256_0_5632 inb_S1x13824_S1x256_0_12544 f hf rfl inb_S256x6912_S256x256_0_5632 x) ?_
    refine pc (fun x => hn_tile arg9 harg9 x9 arg8 harg8 x8 arg2 harg2 x2 arg3 harg3 x3 5376 12288 inb_S256x128_S256x128_0_0 inb_S256x2560_S256x2560_0_0 inb_S2560x13824_S2560x256_0_5376 inb_S2560x13824_S2560x256_0_12288 inb_S1x13824_S1x256_0_5376 inb_S1x13824_S1x256_0_12288 f hf rfl inb_S256x6912_S256x256_0_5376 x) ?_
    refine pc (fun x => hn_tile arg9 harg9 x9 arg8 harg8 x8 arg2 harg2 x2 arg3 harg3 x3 5120 12032 inb_S256x128_S256x128_0_0 inb_S256x2560_S256x2560_0_0 inb_S2560x13824_S2560x256_0_5120 inb_S2560x13824_S2560x256_0_12032 inb_S1x13824_S1x256_0_5120 inb_S1x13824_S1x256_0_12032 f hf rfl inb_S256x6912_S256x256_0_5120 x) ?_
    refine pc (fun x => hn_tile arg9 harg9 x9 arg8 harg8 x8 arg2 harg2 x2 arg3 harg3 x3 4864 11776 inb_S256x128_S256x128_0_0 inb_S256x2560_S256x2560_0_0 inb_S2560x13824_S2560x256_0_4864 inb_S2560x13824_S2560x256_0_11776 inb_S1x13824_S1x256_0_4864 inb_S1x13824_S1x256_0_11776 f hf rfl inb_S256x6912_S256x256_0_4864 x) ?_
    refine pc (fun x => hn_tile arg9 harg9 x9 arg8 harg8 x8 arg2 harg2 x2 arg3 harg3 x3 4608 11520 inb_S256x128_S256x128_0_0 inb_S256x2560_S256x2560_0_0 inb_S2560x13824_S2560x256_0_4608 inb_S2560x13824_S2560x256_0_11520 inb_S1x13824_S1x256_0_4608 inb_S1x13824_S1x256_0_11520 f hf rfl inb_S256x6912_S256x256_0_4608 x) ?_
    refine pc (fun x => hn_tile arg9 harg9 x9 arg8 harg8 x8 arg2 harg2 x2 arg3 harg3 x3 4352 11264 inb_S256x128_S256x128_0_0 inb_S256x2560_S256x2560_0_0 inb_S2560x13824_S2560x256_0_4352 inb_S2560x13824_S2560x256_0_11264 inb_S1x13824_S1x256_0_4352 inb_S1x13824_S1x256_0_11264 f hf rfl inb_S256x6912_S256x256_0_4352 x) ?_
    refine pc (fun x => hn_tile arg9 harg9 x9 arg8 harg8 x8 arg2 harg2 x2 arg3 harg3 x3 4096 11008 inb_S256x128_S256x128_0_0 inb_S256x2560_S256x2560_0_0 inb_S2560x13824_S2560x256_0_4096 inb_S2560x13824_S2560x256_0_11008 inb_S1x13824_S1x256_0_4096 inb_S1x13824_S1x256_0_11008 f hf rfl inb_S256x6912_S256x256_0_4096 x) ?_
    refine pc (fun x => hn_tile arg9 harg9 x9 arg8 harg8 x8 arg2 harg2 x2 arg3 harg3 x3 3840 10752 inb_S256x128_S256x128_0_0 inb_S256x2560_S256x2560_0_0 inb_S2560x13824_S2560x256_0_3840 inb_S2560x13824_S2560x256_0_10752 inb_S1x13824_S1x256_0_3840 inb_S1x13824_S1x256_0_10752 f hf rfl inb_S256x6912_S256x256_0_3840 x) ?_
    refine pc (fun x => hn_tile arg9 harg9 x9 arg8 harg8 x8 arg2 harg2 x2 arg3 harg3 x3 3584 10496 inb_S256x128_S256x128_0_0 inb_S256x2560_S256x2560_0_0 inb_S2560x13824_S2560x256_0_3584 inb_S2560x13824_S2560x256_0_10496 inb_S1x13824_S1x256_0_3584 inb_S1x13824_S1x256_0_10496 f hf rfl inb_S256x6912_S256x256_0_3584 x) ?_
    refine pc (fun x => hn_tile arg9 harg9 x9 arg8 harg8 x8 arg2 harg2 x2 arg3 harg3 x3 3328 10240 inb_S256x128_S256x128_0_0 inb_S256x2560_S256x2560_0_0 inb_S2560x13824_S2560x256_0_3328 inb_S2560x13824_S2560x256_0_10240 inb_S1x13824_S1x256_0_3328 inb_S1x13824_S1x256_0_10240 f hf rfl inb_S256x6912_S256x256_0_3328 x) ?_
    refine pc (fun x => hn_tile arg9 harg9 x9 arg8 harg8 x8 arg2 harg2 x2 arg3 harg3 x3 3072 9984 inb_S256x128_S256x128_0_0 inb_S256x2560_S256x2560_0_0 inb_S2560x13824_S2560x256_0_3072 inb_S2560x13824_S2560x256_0_9984 inb_S1x13824_S1x256_0_3072 inb_S1x13824_S1x256_0_9984 f hf rfl inb_S256x6912_S256x256_0_3072 x) ?_
    refine pc (fun x => hn_tile arg9 harg9 x9 arg8 harg8 x8 arg2 harg2 x2 arg3 harg3 x3 2816 9728 inb_S256x128_S256x128_0_0 inb_S256x2560_S256x2560_0_0 inb_S2560x13824_S2560x256_0_2816 inb_S2560x13824_S2560x256_0_9728 inb_S1x13824_S1x256_0_2816 inb_S1x13824_S1x256_0_9728 f hf rfl inb_S256x6912_S256x256_0_2816 x) ?_
    refine pc (fun x => hn_tile arg9 harg9 x9 arg8 harg8 x8 arg2 harg2 x2 arg3 harg3 x3 2560 9472 inb_S256x128_S256x128_0_0 inb_S256x2560_S256x2560_0_0 inb_S2560x13824_S2560x256_0_2560 inb_S2560x13824_S2560x256_0_9472 inb_S1x13824_S1x256_0_2560 inb_S1x13824_S1x256_0_9472 f hf rfl inb_S256x6912_S256x256_0_2560 x) ?_
    refine pc (fun x => hn_tile arg9 harg9 x9 arg8 harg8 x8 arg2 harg2 x2 arg3 harg3 x3 2304 9216 inb_S256x128_S256x128_0_0 inb_S256x2560_S256x2560_0_0 inb_S2560x13824_S2560x256_0_2304 inb_S2560x13824_S2560x256_0_9216 inb_S1x13824_S1x256_0_2304 inb_S1x13824_S1x256_0_9216 f hf rfl inb_S256x6912_S256x256_0_2304 x) ?_
    refine pc (fun x => hn_tile arg9 harg9 x9 arg8 harg8 x8 arg2 harg2 x2 arg3 harg3 x3 2048 8960 inb_S256x128_S256x128_0_0 inb_S256x2560_S256x2560_0_0 inb_S2560x13824_S2560x256_0_2048 inb_S2560x13824_S2560x256_0_8960 inb_S1x13824_S1x256_0_2048 inb_S1x13824_S1x256_0_8960 f hf rfl inb_S256x6912_S256x256_0_2048 x) ?_
    refine pc (fun x => hn_tile arg9 harg9 x9 arg8 harg8 x8 arg2 harg2 x2 arg3 harg3 x3 1792 8704 inb_S256x128_S256x128_0_0 inb_S256x2560_S256x2560_0_0 inb_S2560x13824_S2560x256_0_1792 inb_S2560x13824_S2560x256_0_8704 inb_S1x13824_S1x256_0_1792 inb_S1x13824_S1x256_0_8704 f hf rfl inb_S256x6912_S256x256_0_1792 x) ?_
    refine pc (fun x => hn_tile arg9 harg9 x9 arg8 harg8 x8 arg2 harg2 x2 arg3 harg3 x3 1536 8448 inb_S256x128_S256x128_0_0 inb_S256x2560_S256x2560_0_0 inb_S2560x13824_S2560x256_0_1536 inb_S2560x13824_S2560x256_0_8448 inb_S1x13824_S1x256_0_1536 inb_S1x13824_S1x256_0_8448 f hf rfl inb_S256x6912_S256x256_0_1536 x) ?_
    refine pc (fun x => hn_tile arg9 harg9 x9 arg8 harg8 x8 arg2 harg2 x2 arg3 harg3 x3 1280 8192 inb_S256x128_S256x128_0_0 inb_S256x2560_S256x2560_0_0 inb_S2560x13824_S2560x256_0_1280 inb_S2560x13824_S2560x256_0_8192 inb_S1x13824_S1x256_0_1280 inb_S1x13824_S1x256_0_8192 f hf rfl inb_S256x6912_S256x256_0_1280 x) ?_
    refine pc (fun x => hn_tile arg9 harg9 x9 arg8 harg8 x8 arg2 harg2 x2 arg3 harg3 x3 1024 7936 inb_S256x128_S256x128_0_0 inb_S256x2560_S256x2560_0_0 inb_S2560x13824_S2560x256_0_1024 inb_S2560x13824_S2560x256_0_7936 inb_S1x13824_S1x256_0_1024 inb_S1x13824_S1x256_0_7936 f hf rfl inb_S256x6912_S256x256_0_1024 x) ?_
    refine pc (fun x => hn_tile arg9 harg9 x9 arg8 harg8 x8 arg2 harg2 x2 arg3 harg3 x3 768 7680 inb_S256x128_S256x128_0_0 inb_S256x2560_S256x2560_0_0 inb_S2560x13824_S2560x256_0_768 inb_S2560x13824_S2560x256_0_7680 inb_S1x13824_S1x256_0_768 inb_S1x13824_S1x256_0_7680 f hf rfl inb_S256x6912_S256x256_0_768 x) ?_
    refine pc (fun x => hn_tile arg9 harg9 x9 arg8 harg8 x8 arg2 harg2 x2 arg3 harg3 x3 512 7424 inb_S256x128_S256x128_0_0 inb_S256x2560_S256x2560_0_0 inb_S2560x13824_S2560x256_0_512 inb_S2560x13824_S2560x256_0_7424 inb_S1x13824_S1x256_0_512 inb_S1x13824_S1x256_0_7424 f hf rfl inb_S256x6912_S256x256_0_512 x) ?_
    refine pc (fun x => hn_tile arg9 harg9 x9 arg8 harg8 x8 arg2 harg2 x2 arg3 harg3 x3 256 7168 inb_S256x128_S256x128_0_0 inb_S256x2560_S256x2560_0_0 inb_S2560x13824_S2560x256_0_256 inb_S2560x13824_S2560x256_0_7168 inb_S1x13824_S1x256_0_256 inb_S1x13824_S1x256_0_7168 f hf rfl inb_S256x6912_S256x256_0_256 x) ?_
    refine pc (fun x => hn_tile arg9 harg9 x9 arg8 harg8 x8 arg2 harg2 x2 arg3 harg3 x3 0 6912 inb_S256x128_S256x128_0_0 inb_S256x2560_S256x2560_0_0 inb_S2560x13824_S2560x256_0_0 inb_S2560x13824_S2560x256_0_6912 inb_S1x13824_S1x256_0_0 inb_S1x13824_S1x256_0_6912 f hf rfl inb_S256x6912_S256x256_0_0 x) ?_
    exact pn
  · rfl

section
variable (c : Dev nD) (arg2 : Memref sig .tc .vmem S2560x13824 .fp8e4m3) (harg2 : arg2.IsWhole) (arg3 : Memref sig .tc .vmem S1x13824 .f32) (harg3 : arg3.IsWhole) (arg8 : Memref sig .tc .vmem S256x2560 .fp8e4m3) (harg8 : arg8.IsWhole) (arg9 : Memref sig .tc .vmem S256x128 .f32) (harg9 : arg9.IsWhole) (arg12 : Memref sig .tc .vmem S256x128 .f32) (x2 : Vec Ideal S2560x13824 .fp8e4m3) (x3 : Vec Ideal S1x13824 .f32) (x8 : Vec Ideal S256x2560 .fp8e4m3) (x9 : Vec Ideal S256x128 .f32)
  (f : Fin 256 → EReal) (hf : ∀ i, x9 i = f (i 0))
include hf

theorem A1 : View.canon (runB.sl.H12_1 c arg2 harg2 arg3 harg3 arg8 harg8 arg9 harg9 x2 x3 x8 x9) = amh (bH x8 f x2 x3) 0 :=
  am_first _ _ (am_tile arg9 harg9 x9 arg8 harg8 x8 arg2 harg2 x2 arg3 harg3 x3 0 6912 inb_S256x128_S256x128_0_0 inb_S256x2560_S256x2560_0_0 inb_S2560x13824_S2560x256_0_0 inb_S2560x13824_S2560x256_0_6912 inb_S1x13824_S1x256_0_0 inb_S1x13824_S1x256_0_6912 f hf rfl 0 rfl (by omega)) rfl

theorem A2 : View.canon (runB.sl.H12_2 c arg2 harg2 arg3 harg3 arg8 harg8 arg9 harg9 arg12 x2 x3 x8 x9) = amh (bH x8 f x2 x3) 1 :=
  am_step arg12.view _ _ 0 (A1 c arg2 harg2 arg3 harg3 arg8 harg8 arg9 harg9 x2 x3 x8 x9 f hf) _ (am_tile arg9 harg9 x9 arg8 harg8 x8 arg2 harg2 x2 arg3 harg3 x3 256 7168 inb_S256x128_S256x128_0_0 inb_S256x2560_S256x2560_0_0 inb_S2560x13824_S2560x256_0_256 inb_S2560x13824_S2560x256_0_7168 inb_S1x13824_S1x256_0_256 inb_S1x13824_S1x256_0_7168 f hf rfl 1 rfl (by omega)) _ rfl

theorem A3 : View.canon (runB.sl.H12_3 c arg2 harg2 arg3 harg3 arg8 harg8 arg9 harg9 arg12 x2 x3 x8 x9) = amh (bH x8 f x2 x3) 2 :=
  am_step arg12.view _ _ 1 (A2 c arg2 harg2 arg3 harg3 arg8 harg8 arg9 harg9 arg12 x2 x3 x8 x9 f hf) _ (am_tile arg9 harg9 x9 arg8 harg8 x8 arg2 harg2 x2 arg3 harg3 x3 512 7424 inb_S256x128_S256x128_0_0 inb_S256x2560_S256x2560_0_0 inb_S2560x13824_S2560x256_0_512 inb_S2560x13824_S2560x256_0_7424 inb_S1x13824_S1x256_0_512 inb_S1x13824_S1x256_0_7424 f hf rfl 2 rfl (by omega)) _ rfl

theorem A4 : View.canon (runB.sl.H12_4 c arg2 harg2 arg3 harg3 arg8 harg8 arg9 harg9 arg12 x2 x3 x8 x9) = amh (bH x8 f x2 x3) 3 :=
  am_step arg12.view _ _ 2 (A3 c arg2 harg2 arg3 harg3 arg8 harg8 arg9 harg9 arg12 x2 x3 x8 x9 f hf) _ (am_tile arg9 harg9 x9 arg8 harg8 x8 arg2 harg2 x2 arg3 harg3 x3 768 7680 inb_S256x128_S256x128_0_0 inb_S256x2560_S256x2560_0_0 inb_S2560x13824_S2560x256_0_768 inb_S2560x13824_S2560x256_0_7680 inb_S1x13824_S1x256_0_768 inb_S1x13824_S1x256_0_7680 f hf rfl 3 rfl (by omega)) _ rfl

theorem A5 : View.canon (runB.sl.H12_5 c arg2 harg2 arg3 harg3 arg8 harg8 arg9 harg9 arg12 x2 x3 x8 x9) = amh (bH x8 f x2 x3) 4 :=
  am_step arg12.view _ _ 3 (A4 c arg2 harg2 arg3 harg3 arg8 harg8 arg9 harg9 arg12 x2 x3 x8 x9 f hf) _ (am_tile arg9 harg9 x9 arg8 harg8 x8 arg2 harg2 x2 arg3 harg3 x3 1024 7936 inb_S256x128_S256x128_0_0 inb_S256x2560_S256x2560_0_0 inb_S2560x13824_S2560x256_0_1024 inb_S2560x13824_S2560x256_0_7936 inb_S1x13824_S1x256_0_1024 inb_S1x13824_S1x256_0_7936 f hf rfl 4 rfl (by omega)) _ rfl

theorem A6 : View.canon (runB.sl.H12_6 c arg2 harg2 arg3 harg3 arg8 harg8 arg9 harg9 arg12 x2 x3 x8 x9) = amh (bH x8 f x2 x3) 5 :=
  am_step arg12.view _ _ 4 (A5 c arg2 harg2 arg3 harg3 arg8 harg8 arg9 harg9 arg12 x2 x3 x8 x9 f hf) _ (am_tile arg9 harg9 x9 arg8 harg8 x8 arg2 harg2 x2 arg3 harg3 x3 1280 8192 inb_S256x128_S256x128_0_0 inb_S256x2560_S256x2560_0_0 inb_S2560x13824_S2560x256_0_1280 inb_S2560x13824_S2560x256_0_8192 inb_S1x13824_S1x256_0_1280 inb_S1x13824_S1x256_0_8192 f hf rfl 5 rfl (by omega)) _ rfl

theorem A7 : View.canon (runB.sl.H12_7 c arg2 harg2 arg3 harg3 arg8 harg8 arg9 harg9 arg12 x2 x3 x8 x9) = amh (bH x8 f x2 x3) 6 :=
  am_step arg12.view _ _ 5 (A6 c arg2 harg2 arg3 harg3 arg8 harg8 arg9 harg9 arg12 x2 x3 x8 x9 f hf) _ (am_tile arg9 harg9 x9 arg8 harg8 x8 arg2 harg2 x2 arg3 harg3 x3 1536 8448 inb_S256x128_S256x128_0_0 inb_S256x2560_S256x2560_0_0 inb_S2560x13824_S2560x256_0_1536 inb_S2560x13824_S2560x256_0_8448 inb_S1x13824_S1x256_0_1536 inb_S1x13824_S1x256_0_8448 f hf rfl 6 rfl (by omega)) _ rfl

theorem A8 : View.canon (runB.sl.H12_8 c arg2 harg2 arg3 harg3 arg8 harg8 arg9 harg9 arg12 x2 x3 x8 x9) = amh (bH x8 f x2 x3) 7 :=
  am_step arg12.view _ _ 6 (A7 c arg2 harg2 arg3 harg3 arg8 harg8 arg9 harg9 arg12 x2 x3 x8 x9 f hf) _ (am_tile arg9 harg9 x9 arg8 harg8 x8 arg2 harg2 x2 arg3 harg3 x3 1792 8704 inb_S256x128_S256x128_0_0 inb_S256x2560_S256x2560_0_0 inb_S2560x13824_S2560x256_0_1792 inb_S2560x13824_S2560x256_0_8704 inb_S1x13824_S1x256_0_1792 inb_S1x13824_S1x256_0_8704 f hf rfl 7 rfl (by omega)) _ rfl

theorem A9 : View.canon (runB.sl.H12_9 c arg2 harg2 arg3 harg3 arg8 harg8 arg9 harg9 arg12 x2 x3 x8 x9) = amh (bH x8 f x2 x3) 8 :=
  am_step arg12.view _ _ 7 (A8 c arg2 harg2 arg3 harg3 arg8 harg8 arg9 harg9 arg12 x2 x3 x8 x9 f hf) _ (am_tile arg9 harg9 x9 arg8 harg8 x8 arg2 harg2 x2 arg3 harg3 x3 2048 8960 inb_S256x128_S256x128_0_0 inb_S256x2560_S256x2560_0_0 inb_S2560x13824_S2560x256_0_2048 inb_S2560x13824_S2560x256_0_8960 inb_S1x13824_S1x256_0_2048 inb_S1x13824_S1x256_0_8960 f hf rfl 8 rfl (by omega)) _ rfl

theorem A10 : View.canon (runB.sl.H12_10 c arg2 harg2 arg3 harg3 arg8 harg8 arg9 harg9 arg12 x2 x3 x8 x9) = amh (bH x8 f x2 x3) 9 :=
  am_step arg12.view _ _ 8 (A9 c arg2 harg2 arg3 harg3 arg8 harg8 arg9 harg9 arg12 x2 x3 x8 x9 f hf) _ (am_tile arg9 harg9 x9 arg8 harg8 x8 arg2 harg2 x2 arg3 harg3 x3 2304 9216 inb_S256x128_S256x128_0_0 inb_S256x2560_S256x2560_0_0 inb_S2560x13824_S2560x256_0_2304 inb_S2560x13824_S2560x256_0_9216 inb_S1x13824_S1x256_0_2304 inb_S1x13824_S1x256_0_9216 f hf rfl 9 rfl (by omega)) _ rfl

theorem A11 : View.canon (runB.sl.H12_11 c arg2 harg2 arg3 harg3 arg8 harg8 arg9 harg9 arg12 x2 x3 x8 x9) = amh (bH x8 f x2 x3) 10 :=
  am_step arg12.view _ _ 9 (A10 c arg2 harg2 arg3 harg3 arg8 harg8 arg9 harg9 arg12 x2 x3 x8 x9 f hf) _ (am_tile arg9 harg9 x9 arg8 harg8 x8 arg2 harg2 x2 arg3 harg3 x3 2560 9472 inb_S256x128_S256x128_0_0 inb_S256x2560_S256x2560_0_0 inb_S2560x13824_S2560x256_0_2560 inb_S2560x13824_S2560x256_0_9472 inb_S1x13824_S1x256_0_2560 inb_S1x13824_S1x256_0_9472 f hf rfl 10 rfl (by omega)) _ rfl

theorem A12 : View.canon (runB.sl.H12_12 c arg2 harg2 arg3 harg3 arg8 harg8 arg9 harg9 arg12 x2 x3 x8 x9) = amh (bH x8 f x2 x3) 11 :=
  am_step arg12.view _ _ 10 (A11 c arg2 harg2 arg3 harg3 arg8 harg8 arg9 harg9 arg12 x2 x3 x8 x9 f hf) _ (am_tile arg9 harg9 x9 arg8 harg8 x8 arg2 harg2 x2 arg3 harg3 x3 2816 9728 inb_S256x128_S256x128_0_0 inb_S256x2560_S256x2560_0_0 inb_S2560x13824_S2560x256_0_2816 inb_S2560x13824_S2560x256_0_9728 inb_S1x13824_S1x256_0_2816 inb_S1x13824_S1x256_0_9728 f hf rfl 11 rfl (by omega)) _ rfl

theorem A13 : View.canon (runB.sl.H12_13 c arg2 harg2 arg3 harg3 arg8 harg8 arg9 harg9 arg12 x2 x3 x8 x9) = amh (bH x8 f x2 x3) 12 :=
  am_step arg12.view _ _ 11 (A12 c arg2 harg2 arg3 harg3 arg8 harg8 arg9 harg9 arg12 x2 x3 x8 x9 f hf) _ (am_tile arg9 harg9 x9 arg8 harg8 x8 arg2 harg2 x2 arg3 harg3 x3 3072 9984 inb_S256x128_S256x128_0_0 inb_S256x2560_S256x2560_0_0 inb_S2560x13824_S2560x256_0_3072 inb_S2560x13824_S2560x256_0_9984 inb_S1x13824_S1x256_0_3072 inb_S1x13824_S1x256_0_9984 f hf rfl 12 rfl (by omega)) _ rfl

theorem A14 : View.canon (runB.sl.H12_14 c arg2 harg2 arg3 harg3 arg8 harg8 arg9 harg9 arg12 x2 x3 x8 x9) = amh (bH x8 f x2 x3) 13 :=
  am_step arg12.view _ _ 12 (A13 c arg2 harg2 arg3 harg3 arg8 harg8 arg9 harg9 arg12 x2 x3 x8 x9 f hf) _ (am_tile arg9 harg9 x9 arg8 harg8 x8 arg2 harg2 x2 arg3 harg3 x3 3328 10240 inb_S256x128_S256x128_0_0 inb_S256x2560_S256x2560_0_0 inb_S2560x13824_S2560x256_0_3328 inb_S2560x13824_S2560x256_0_10240 inb_S1x13824_S1x256_0_3328 inb_S1x13824_S1x256_0_10240 f hf rfl 13 rfl (by omega)) _ rfl

theorem A15 : View.canon (runB.sl.H12_15 c arg2 harg2 arg3 harg3 arg8 harg8 arg9 harg9 arg12 x2 x3 x8 x9) = amh (bH x8 f x2 x3) 14 :=
  am_step arg12.view _ _ 13 (A14 c arg2 harg2 arg3 harg3 arg8 harg8 arg9 harg9 arg12 x2 x3 x8 x9 f hf) _ (am_tile arg9 harg9 x9 arg8 harg8 x8 arg2 harg2 x2 arg3 harg3 x3 3584 10496 inb_S256x128_S256x128_0_0 inb_S256x2560_S256x2560_0_0 inb_S2560x13824_S2560x256_0_3584 inb_S2560x13824_S2560x256_0_10496 inb_S1x13824_S1x256_0_3584 inb_S1x13824_S1x256_0_10496 f hf rfl 14 rfl (by omega)) _ rfl

theorem A16 : View.canon (runB.sl.H12_16 c arg2 harg2 arg3 harg3 arg8 harg8 arg9 harg9 arg12 x2 x3 x8 x9) = amh (bH x8 f x2 x3) 15 :=
  am_step arg12.view _ _ 14 (A15 c arg2 harg2 arg3 harg3 arg8 harg8 arg9 harg9 arg12 x2 x3 x8 x9 f hf) _ (am_tile arg9 harg9 x9 arg8 harg8 x8 arg2 harg2 x2 arg3 harg3 x3 3840 10752 inb_S256x128_S256x128_0_0 inb_S256x2560_S256x2560_0_0 inb_S2560x13824_S2560x256_0_3840 inb_S2560x13824_S2560x256_0_10752 inb_S1x13824_S1x256_0_3840 inb_S1x13824_S1x256_0_10752 f hf rfl 15 rfl (by omega)) _ rfl

theorem A17 : View.canon (runB.sl.H12_17 c arg2 harg2 arg3 harg3 arg8 harg8 arg9 harg9 arg12 x2 x3 x8 x9) = amh (bH x8 f x2 x3) 16 :=
  am_step arg12.view _ _ 15 (A16 c arg2 harg2 arg3 harg3 arg8 harg8 arg9 harg9 arg12 x2 x3 x8 x9 f hf) _ (am_tile arg9 harg9 x9 arg8 harg8 x8 arg2 harg2 x2 arg3 harg3 x3 4096 11008 inb_S256x128_S256x128_0_0 inb_S256x2560_S256x2560_0_0 inb_S2560x13824_S2560x256_0_4096 inb_S2560x13824_S2560x256_0_11008 inb_S1x13824_S1x256_0_4096 inb_S1x13824_S1x256_0_11008 f hf rfl 16 rfl (by omega)) _ rfl

theorem A18 : View.canon (runB.sl.H12_18 c arg2 harg2 arg3 harg3 arg8 harg8 arg9 harg9 arg12 x2 x3 x8 x9) = amh (bH x8 f x2 x3) 17 :=
  am_step arg12.view _ _ 16 (A17 c arg2 harg2 arg3 harg3 arg8 harg8 arg9 harg9 arg12 x2 x3 x8 x9 f hf) _ (am_tile arg9 harg9 x9 arg8 harg8 x8 arg2 harg2 x2 arg3 harg3 x3 4352 11264 inb_S256x128_S256x128_0_0 inb_S256x2560_S256x2560_0_0 inb_S2560x13824_S2560x256_0_4352 inb_S2560x13824_S2560x256_0_11264 inb_S1x13824_S1x256_0_4352 inb_S1x13824_S1x256_0_11264 f hf rfl 17 rfl (by omega)) _ rfl

theorem A19 : View.canon (runB.sl.H12_19 c arg2 harg2 arg3 harg3 arg8 harg8 arg9 harg9 arg12 x2 x3 x8 x9) = amh (bH x8 f x2 x3) 18 :=
  am_step arg12.view _ _ 17 (A18 c arg2 harg2 arg3 harg3 arg8 harg8 arg9 harg9 arg12 x2 x3 x8 x9 f hf) _ (am_tile arg9 harg9 x9 arg8 harg8 x8 arg2 harg2 x2 arg3 harg3 x3 4608 11520 inb_S256x128_S256x128_0_0 inb_S256x2560_S256x2560_0_0 inb_S2560x13824_S2560x256_0_4608 inb_S2560x13824_S2560x256_0_11520 inb_S1x13824_S1x256_0_4608 inb_S1x13824_S1x256_0_11520 f hf rfl 18 rfl (by omega)) _ rfl

theorem A20 : View.canon (runB.sl.H12_20 c arg2 harg2 arg3 harg3 arg8 harg8 arg9 harg9 arg12 x2 x3 x8 x9) = amh (bH x8 f x2 x3) 19 :=
  am_step arg12.view _ _ 18 (A19 c arg2 harg2 arg3 harg3 arg8 harg8 arg9 harg9 arg12 x2 x3 x8 x9 f hf) _ (am_tile arg9 harg9 x9 arg8 harg8 x8 arg2 harg2 x2 arg3 harg3 x3 4864 11776 inb_S256x128_S256x128_0_0 inb_S256x2560_S256x2560_0_0 inb_S2560x13824_S2560x256_0_4864 inb_S2560x13824_S2560x256_0_11776 inb_S1x13824_S1x256_0_4864 inb_S1x13824_S1x256_0_11776 f hf rfl 19 rfl (by omega)) _ rfl

theorem A21 : View.canon (runB.sl.H12_21 c arg2 harg2 arg3 harg3 arg8 harg8 arg9 harg9 arg12 x2 x3 x8 x9) = amh (bH x8 f x2 x3) 20 :=
  am_step arg12.view _ _ 19 (A20 c arg2 harg2 arg3 harg3 arg8 harg8 arg9 harg9 arg12 x2 x3 x8 x9 f hf) _ (am_tile arg9 harg9 x9 arg8 harg8 x8 arg2 harg2 x2 arg3 harg3 x3 5120 12032 inb_S256x128_S256x128_0_0 inb_S256x2560_S256x2560_0_0 inb_S2560x13824_S2560x256_0_5120 inb_S2560x13824_S2560x256_0_12032 inb_S1x13824_S1x256_0_5120 inb_S1x13824_S1x256_0_12032 f hf rfl 20 rfl (by omega)) _ rfl

theorem A22 : View.canon (runB.sl.H12_22 c arg2 harg2 arg3 harg3 arg8 harg8 arg9 harg9 arg12 x2 x3 x8 x9) = amh (bH x8 f x2 x3) 21 :=
  am_step arg12.view _ _ 20 (A21 c arg2 harg2 arg3 harg3 arg8 harg8 arg9 harg9 arg12 x2 x3 x8 x9 f hf) _ (am_tile arg9 harg9 x9 arg8 harg8 x8 arg2 harg2 x2 arg3 harg3 x3 5376 12288 inb_S256x128_S256x128_0_0 inb_S256x2560_S256x2560_0_0 inb_S2560x13824_S2560x256_0_5376 inb_S2560x13824_S2560x256_0_12288 inb_S1x13824_S1x256_0_5376 inb_S1x13824_S1x256_0_12288 f hf rfl 21 rfl (by omega)) _ rfl

theorem A23 : View.canon (runB.sl.H12_23 c arg2 harg2 arg3 harg3 arg8 harg8 arg9 harg9 arg12 x2 x3 x8 x9) = amh (bH x8 f x2 x3) 22 :=
  am_step arg12.view _ _ 21 (A22 c arg2 harg2 arg3 harg3 arg8 harg8 arg9 harg9 arg12 x2 x3 x8 x9 f hf) _ (am_tile arg9 harg9 x9 arg8 harg8 x8 arg2 harg2 x2 arg3 harg3 x3 5632 12544 inb_S256x128_S256x128_0_0 inb_S256x2560_S256x2560_0_0 inb_S2560x13824_S2560x256_0_5632 inb_S2560x13824_S2560x256_0_12544 inb_S1x13824_S1x256_0_5632 inb_S1x13824_S1x256_0_12544 f hf rfl 22 rfl (by omega)) _ rfl

theorem A24 : View.canon (runB.sl.H12_24 c arg2 harg2 arg3 harg3 arg8 harg8 arg9 harg9 arg12 x2 x3 x8 x9) = amh (bH x8 f x2 x3) 23 :=
  am_step arg12.view _ _ 22 (A23 c arg2 harg2 arg3 harg3 arg8 harg8 arg9 harg9 arg12 x2 x3 x8 x9 f hf) _ (am_tile arg9 harg9 x9 arg8 harg8 x8 arg2 harg2 x2 arg3 harg3 x3 5888 12800 inb_S256x128_S256x128_0_0 inb_S256x2560_S256x2560_0_0 inb_S2560x13824_S2560x256_0_5888 inb_S2560x13824_S2560x256_0_12800 inb_S1x13824_S1x256_0_5888 inb_S1x13824_S1x256_0_12800 f hf rfl 23 rfl (by omega)) _ rfl

theorem A25 : View.canon (runB.sl.H12_25 c arg2 harg2 arg3 harg3 arg8 harg8 arg9 harg9 arg12 x2 x3 x8 x9) = amh (bH x8 f x2 x3) 24 :=
  am_step arg12.view _ _ 23 (A24 c arg2 harg2 arg3 harg3 arg8 harg8 arg9 harg9 arg12 x2 x3 x8 x9 f hf) _ (am_tile arg9 harg9 x9 arg8 harg8 x8 arg2 harg2 x2 arg3 harg3 x3 6144 13056 inb_S256x128_S256x128_0_0 inb_S256x2560_S256x2560_0_0 inb_S2560x13824_S2560x256_0_6144 inb_S2560x13824_S2560x256_0_13056 inb_S1x13824_S1x256_0_6144 inb_S1x13824_S1x256_0_13056 f hf rfl 24 rfl (by omega)) _ rfl

theorem A26 : View.canon (runB.sl.H12_26 c arg2 harg2 arg3 harg3 arg8 harg8 arg9 harg9 arg12 x2 x3 x8 x9) = amh (bH x8 f x2 x3) 25 :=
  am_step arg12.view _ _ 24 (A25 c arg2 harg2 arg3 harg3 arg8 harg8 arg9 harg9 arg12 x2 x3 x8 x9 f hf) _ (am_tile arg9 harg9 x9 arg8 harg8 x8 arg2 harg2 x2 arg3 harg3 x3 6400 13312 inb_S256x128_S256x128_0_0 inb_S256x2560_S256x2560_0_0 inb_S2560x13824_S2560x256_0_6400 inb_S2560x13824_S2560x256_0_13312 inb_S1x13824_S1x256_0_6400 inb_S1x13824_S1x256_0_13312 f hf rfl 25 rfl (by omega)) _ rfl
end

theorem L12 (c : Dev nD) (i : grid0.Coords) (arg1 : Memref sig .tc .vmem S256x2560 .bf16) (harg1 : arg1.IsWhole) (arg2 : Memref sig .tc .vmem S2560x13824 .fp8e4m3) (harg2 : arg2.IsWhole) (arg3 : Memref sig .tc .vmem S1x13824 .f32) (harg3 : arg3.IsWhole) (arg4 : Memref sig .tc .vmem S256x2560 .fp8e4m3) (harg4 : arg4.IsWhole) (arg5 : Memref sig .tc .vmem S1x2x128 .f32) (harg5 : arg5.IsWhole) (arg6 : Memref sig .tc .vmem S256x6912 .fp8e4m3) (harg6 : arg6.IsWhole) (arg7 : Memref sig .tc .vmem S1x2x128 .f32) (harg7 : arg7.IsWhole) (arg8 : Memref sig .tc .vmem S256x2560 .fp8e4m3) (harg8 : arg8.IsWhole) (arg9 : Memref sig .tc .vmem S256x128 .f32) (harg9 : arg9.IsWhole) (arg10 : Memref sig .tc .vmem S256x128 .f32) (harg10 : arg10.IsWhole) (arg11 : Memref sig .tc .vmem S256x6912 .f32) (harg11 : arg11.IsWhole) (arg12 : Memref sig .tc .vmem S256x128 .f32) (harg12 : arg12.IsWhole) (arg13 : Memref sig .tc .vmem S256x128 .f32) (harg13 : arg13.IsWhole) (hc0 : ¬cond0_0 i) (hc1 : cond0_1 i) (hc2 : ¬cond0_2 i)
    (x1 : Vec Ideal S256x2560 .bf16) (x2 : Vec Ideal S2560x13824 .fp8e4m3) (x3 : Vec Ideal S1x13824 .f32) (x8 : Vec Ideal S256x2560 .fp8e4m3) (x9 : Vec Ideal S256x128 .f32) (x11 : Vec Ideal S256x6912 .f32) (x12 : Vec Ideal S256x128 .f32)
    (f : Fin 256 → EReal) (hf : ∀ i, x9 i = f (i 0)) :
    View.canon (runB c i arg1 harg1 arg2 harg2 arg3 harg3 arg4 harg4 arg5 harg5 arg6 harg6 arg7 harg7 arg8 harg8 arg9 harg9 arg10 harg10 arg11 harg11 arg12 harg12 arg13 harg13 hc0 hc1 hc2 x1 x2 x3 x8 x9 x11 x12).2.2.2.2.2.2.2.1 = amh (bH x8 f x2 x3) 26 := by
  unfold runB
  dsimp only
  exact am_step arg12.view _ _ 25 (A26 c arg2 harg2 arg3 harg3 arg8 harg8 arg9 harg9 arg12 x2 x3 x8 x9 f hf) _ (am_tile arg9 harg9 x9 arg8 harg8 x8 arg2 harg2 x2 arg3 harg3 x3 6656 13568 inb_S256x128_S256x128_0_0 inb_S256x2560_S256x2560_0_0 inb_S2560x13824_S2560x256_0_6656 inb_S2560x13824_S2560x256_0_13568 inb_S1x13824_S1x256_0_6656 inb_S1x13824_S1x256_0_13568 f hf rfl 26 rfl (by omega)) _ rfl

end Cert.Proof.UpValB
end
-- ==== Proof.UpRunC.lean ====
/- The gate/up kernel's body at the last grid point, run: which pieces it stores into which buffer. -/
module

public import proofs.«01_k».proof.Proof.UpRunB

@[expose] public section

set_option maxRecDepth 16384

noncomputable section

namespace Cert.Proof.UpRun

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at the last grid point: the stores it makes into each buffer it fills (`L4`, …: the pieces, last first, of the
    argument of that number), with the proof that from whole buffers — those it reads before storing at named contents
    (`x1`, …), the others at any — it runs to the end, leaving those pieces written and the buffers it only reads as
    they were. -/
noncomputable def runC (c : Dev nD) (i : grid0.Coords) (arg1 : Memref sig .tc .vmem S256x2560 .bf16) (harg1 : arg1.IsWhole) (arg2 : Memref sig .tc .vmem S2560x13824 .fp8e4m3) (harg2 : arg2.IsWhole) (arg3 : Memref sig .tc .vmem S1x13824 .f32) (harg3 : arg3.IsWhole) (arg4 : Memref sig .tc .vmem S256x2560 .fp8e4m3) (harg4 : arg4.IsWhole) (arg5 : Memref sig .tc .vmem S1x2x128 .f32) (harg5 : arg5.IsWhole) (arg6 : Memref sig .tc .vmem S256x6912 .fp8e4m3) (harg6 : arg6.IsWhole) (arg7 : Memref sig .tc .vmem S1x2x128 .f32) (harg7 : arg7.IsWhole) (arg8 : Memref sig .tc .vmem S256x2560 .fp8e4m3) (harg8 : arg8.IsWhole) (arg9 : Memref sig .tc .vmem S256x128 .f32) (harg9 : arg9.IsWhole) (arg10 : Memref sig .tc .vmem S256x128 .f32) (harg10 : arg10.IsWhole) (arg11 : Memref sig .tc .vmem S256x6912 .f32) (harg11 : arg11.IsWhole) (arg12 : Memref sig .tc .vmem S256x128 .f32) (harg12 : arg12.IsWhole) (arg13 : Memref sig .tc .vmem S256x128 .f32) (harg13 : arg13.IsWhole) (hc0 : ¬cond0_0 i) (hc1 : ¬cond0_1 i) (hc2 : cond0_2 i)
    (x1 : Vec F S256x2560 .bf16) (x2 : Vec F S2560x13824 .fp8e4m3) (x3 : Vec F S1x13824 .f32) (x4 : Vec F S256x2560 .fp8e4m3) (x5 : Vec F S1x2x128 .f32) (x11 : Vec F S256x6912 .f32) (x12 : Vec F S256x128 .f32) :
    Σ' (L6 : List (View.Piece (Elt F) S256x6912 .fp8e4m3)), { L7 : List (View.Piece (Elt F) S1x2x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare x11 ∗ owns (c : Thread nD τ) arg12 fullShare x12 ∗ (∃ d, owns (c : Thread nD τ) arg13 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare x11 ∗ owns (c : Thread nD τ) arg12 fullShare x12 ∗ (∃ d, owns (c : Thread nD τ) arg13 fullShare d)) -∗ K ⟨⟩))
          ⊢ wp frame (wpE (defs₀ (F := F)) Variants.none c none) E (cc0_gate_up i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0_gate_up_eq_skeleton]; unfold cc0_gate_up_skel
    simp only [k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%f11, %hf11, H11⟩, ⟨%f12, %hf12, H12⟩, ⟨%d13, %f13, -, H13⟩, Hk⟩
    obtain rfl := harg1.eq_unread hf1; obtain rfl := harg2.eq_unread hf2; obtain rfl := harg3.eq_unread hf3; obtain rfl := harg4.eq_unread hf4; obtain rfl := harg5.eq_unread hf5; obtain rfl := harg11.eq_unread hf11; obtain rfl := harg12.eq_unread hf12
    sl_exec (disch := first | sl_exact hc0 | sl_exact hc1 | sl_exact hc2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexact H6
    isplitl [H7]
    · iexists _; iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _; isplitr; · ipureintro; exact harg11.read_unread _
      iexact H11
    isplitl [H12]
    · iexists _; isplitr; · ipureintro; exact harg12.read_unread _
      iexact H12
    iexists _, _; isplitr; swap; · iexact H13
    ipureintro; rfl

end Cert.Proof.UpRun

end
-- ==== Proof.UpValC.lean ====
/-
  Hand-written, untrusted. What a grid step of the gate/up kernel at the last point leaves in each buffer it writes.
-/
module

public import proofs.«01_k».proof.Proof.UpTile
public import proofs.«01_k».proof.Proof.UpRunC

@[expose] public section

set_option maxRecDepth 16384

noncomputable section

namespace Cert.Proof.UpValC

open Cert.UpIdeal Cert.UpIdeal.Gen
open Idealize.ShloMosaic Idealize.ShloMosaic.TcCoe Idealize.SL.Sem
open Cert.Proof.UpVec Cert.Proof.UpExp Cert.Proof.UpBlk Cert.Proof.UpTile Cert.Proof.UpRun

section
variable (c : Dev nD) (arg12 : Memref sig .tc .vmem S256x128 .f32) (harg12 : arg12.IsWhole) (arg13 : Memref sig .tc .vmem S256x128 .f32)
  (x12 : Vec Ideal S256x128 .f32) (x11 : Vec Ideal S256x6912 .f32)
  (hA : ∀ a, rmax (row x12 a) * Ideal.ofBits .f32 0x3B124925#32 = T (row x11 a))

include hA
theorem inverse : ∀ i, runC.sl.v130 c arg12 harg12 arg13 x12 i = RI (T (row x11 (i 0))) := fun i => by
  refine (congrFun (View.readCov_unit_zero _ off2 _ _) i).trans ?_
  refine (show _ = hin (View.readAt (Elt Ideal) arg12.view (Rect.unit (s := S256x128) ![0, 0] ![256, 128] inb_S256x128_S256x128_0_0).toLoadRect (harg12.unread x12)) i from rfl).trans ?_
  rw [show View.readAt (Elt Ideal) arg12.view (Rect.unit (s := S256x128) ![0, 0] ![256, 128] inb_S256x128_S256x128_0_0).toLoadRect (harg12.unread x12) = x12 from
    rd_whole arg12 harg12 x12 _ off2 _]
  exact hin_at x12 i _ (hA _)
end

theorem L6 (c : Dev nD) (i : grid0.Coords) (arg1 : Memref sig .tc .vmem S256x2560 .bf16) (harg1 : arg1.IsWhole) (arg2 : Memref sig .tc .vmem S2560x13824 .fp8e4m3) (harg2 : arg2.IsWhole) (arg3 : Memref sig .tc .vmem S1x13824 .f32) (harg3 : arg3.IsWhole) (arg4 : Memref sig .tc .vmem S256x2560 .fp8e4m3) (harg4 : arg4.IsWhole) (arg5 : Memref sig .tc .vmem S1x2x128 .f32) (harg5 : arg5.IsWhole) (arg6 : Memref sig .tc .vmem S256x6912 .fp8e4m3) (harg6 : arg6.IsWhole) (arg7 : Memref sig .tc .vmem S1x2x128 .f32) (harg7 : arg7.IsWhole) (arg8 : Memref sig .tc .vmem S256x2560 .fp8e4m3) (harg8 : arg8.IsWhole) (arg9 : Memref sig .tc .vmem S256x128 .f32) (harg9 : arg9.IsWhole) (arg10 : Memref sig .tc .vmem S256x128 .f32) (harg10 : arg10.IsWhole) (arg11 : Memref sig .tc .vmem S256x6912 .f32) (harg11 : arg11.IsWhole) (arg12 : Memref sig .tc .vmem S256x128 .f32) (harg12 : arg12.IsWhole) (arg13 : Memref sig .tc .vmem S256x128 .f32) (harg13 : arg13.IsWhole) (hc0 : ¬cond0_0 i) (hc1 : ¬cond0_1 i) (hc2 : cond0_2 i)
    (x1 : Vec Ideal S256x2560 .bf16) (x2 : Vec Ideal S2560x13824 .fp8e4m3) (x3 : Vec Ideal S1x13824 .f32) (x4 : Vec Ideal S256x2560 .fp8e4m3) (x5 : Vec Ideal S1x2x128 .f32) (x11 : Vec Ideal S256x6912 .f32) (x12 : Vec Ideal S256x128 .f32)
    (hA : ∀ a, rmax (row x12 a) * Ideal.ofBits .f32 0x3B124925#32 = T (row x11 a)) :
    View.canon (runC c i arg1 harg1 arg2 harg2 arg3 harg3 arg4 harg4 arg5 harg5 arg6 harg6 arg7 harg7 arg8 harg8 arg9 harg9 arg10 harg10 arg11 harg11 arg12 harg12 arg13 harg13 hc0 hc1 hc2 x1 x2 x3 x4 x5 x11 x12).1 = bC x11 := by
  unfold runC
  dsimp only
  have hn := inverse c arg12 harg12 arg13 x12 x11 hA
  refine canon_all (S := S256x6912) (e := .fp8e4m3) (bC x11) _ ![256, 256] ?_ ?_
  · refine pc (fun x => hq_tile arg11 harg11 x11 6656 inb_S256x6912_S256x256_0_6656 _ hn x) ?_
    refine pc (fun x => hq_tile arg11 harg11 x11 6400 inb_S256x6912_S256x256_0_6400 _ hn x) ?_
    refine pc (fun x => hq_tile arg11 harg11 x11 6144 inb_S256x6912_S256x256_0_6144 _ hn x) ?_
    refine pc (fun x => hq_tile arg11 harg11 x11 5888 inb_S256x6912_S256x256_0_5888 _ hn x) ?_
    refine pc (fun x => hq_tile arg11 harg11 x11 5632 inb_S256x6912_S256x256_0_5632 _ hn x) ?_
    refine pc (fun x => hq_tile arg11 harg11 x11 5376 inb_S256x6912_S256x256_0_5376 _ hn x) ?_
    refine pc (fun x => hq_tile arg11 harg11 x11 5120 inb_S256x6912_S256x256_0_5120 _ hn x) ?_
    refine pc (fun x => hq_tile arg11 harg11 x11 4864 inb_S256x6912_S256x256_0_4864 _ hn x) ?_
    refine pc (fun x => hq_tile arg11 harg11 x11 4608 inb_S256x6912_S256x256_0_4608 _ hn x) ?_
    refine pc (fun x => hq_tile arg11 harg11 x11 4352 inb_S256x6912_S256x256_0_4352 _ hn x) ?_
    refine pc (fun x => hq_tile arg11 harg11 x11 4096 inb_S256x6912_S256x256_0_4096 _ hn x) ?_
    refine pc (fun x => hq_tile arg11 harg11 x11 3840 inb_S256x6912_S256x256_0_3840 _ hn x) ?_
    refine pc (fun x => hq_tile arg11 harg11 x11 3584 inb_S256x6912_S256x256_0_3584 _ hn x) ?_
    refine pc (fun x => hq_tile arg11 harg11 x11 3328 inb_S256x6912_S256x256_0_3328 _ hn x) ?_
    refine pc (fun x => hq_tile arg11 harg11 x11 3072 inb_S256x6912_S256x256_0_3072 _ hn x) ?_
    refine pc (fun x => hq_tile arg11 harg11 x11 2816 inb_S256x6912_S256x256_0_2816 _ hn x) ?_
    refine pc (fun x => hq_tile arg11 harg11 x11 2560 inb_S256x6912_S256x256_0_2560 _ hn x) ?_
    refine pc (fun x => hq_tile arg11 harg11 x11 2304 inb_S256x6912_S256x256_0_2304 _ hn x) ?_
    refine pc (fun x => hq_tile arg11 harg11 x11 2048 inb_S256x6912_S256x256_0_2048 _ hn x) ?_
    refine pc (fun x => hq_tile arg11 harg11 x11 1792 inb_S256x6912_S256x256_0_1792 _ hn x) ?_
    refine pc (fun x => hq_tile arg11 harg11 x11 1536 inb_S256x6912_S256x256_0_1536 _ hn x) ?_
    refine pc (fun x => hq_tile arg11 harg11 x11 1280 inb_S256x6912_S256x256_0_1280 _ hn x) ?_
    refine pc (fun x => hq_tile arg11 harg11 x11 1024 inb_S256x6912_S256x256_0_1024 _ hn x) ?_
    refine pc (fun x => hq_tile arg11 harg11 x11 768 inb_S256x6912_S256x256_0_768 _ hn x) ?_
    refine pc (fun x => hq_tile arg11 harg11 x11 512 inb_S256x6912_S256x256_0_512 _ hn x) ?_
    refine pc (fun x => hq_tile arg11 harg11 x11 256 inb_S256x6912_S256x256_0_256 _ hn x) ?_
    refine pc (fun x => hq_tile arg11 harg11 x11 0 inb_S256x6912_S256x256_0_0 _ hn x) ?_
    exact pn
  · rfl

theorem L7 (c : Dev nD) (i : grid0.Coords) (arg1 : Memref sig .tc .vmem S256x2560 .bf16) (harg1 : arg1.IsWhole) (arg2 : Memref sig .tc .vmem S2560x13824 .fp8e4m3) (harg2 : arg2.IsWhole) (arg3 : Memref sig .tc .vmem S1x13824 .f32) (harg3 : arg3.IsWhole) (arg4 : Memref sig .tc .vmem S256x2560 .fp8e4m3) (harg4 : arg4.IsWhole) (arg5 : Memref sig .tc .vmem S1x2x128 .f32) (harg5 : arg5.IsWhole) (arg6 : Memref sig .tc .vmem S256x6912 .fp8e4m3) (harg6 : arg6.IsWhole) (arg7 : Memref sig .tc .vmem S1x2x128 .f32) (harg7 : arg7.IsWhole) (arg8 : Memref sig .tc .vmem S256x2560 .fp8e4m3) (harg8 : arg8.IsWhole) (arg9 : Memref sig .tc .vmem S256x128 .f32) (harg9 : arg9.IsWhole) (arg10 : Memref sig .tc .vmem S256x128 .f32) (harg10 : arg10.IsWhole) (arg11 : Memref sig .tc .vmem S256x6912 .f32) (harg11 : arg11.IsWhole) (arg12 : Memref sig .tc .vmem S256x128 .f32) (harg12 : arg12.IsWhole) (arg13 : Memref sig .tc .vmem S256x128 .f32) (harg13 : arg13.IsWhole) (hc0 : ¬cond0_0 i) (hc1 : ¬cond0_1 i) (hc2 : cond0_2 i)
    (x1 : Vec Ideal S256x2560 .bf16) (x2 : Vec Ideal S2560x13824 .fp8e4m3) (x3 : Vec Ideal S1x13824 .f32) (x4 : Vec Ideal S256x2560 .fp8e4m3) (x5 : Vec Ideal S1x2x128 .f32) (x11 : Vec Ideal S256x6912 .f32) (x12 : Vec Ideal S256x128 .f32)
    (hA : ∀ a, rmax (row x12 a) * Ideal.ofBits .f32 0x3B124925#32 = T (row x11 a)) :
    View.canon (runC c i arg1 harg1 arg2 harg2 arg3 harg3 arg4 harg4 arg5 harg5 arg6 harg6 arg7 harg7 arg8 harg8 arg9 harg9 arg10 harg10 arg11 harg11 arg12 harg12 arg13 harg13 hc0 hc1 hc2 x1 x2 x3 x4 x5 x11 x12).2.1 = bL x11 := by
  unfold runC
  dsimp only
  refine (View.canon_unit_zero off3 _ _).trans (funext fun i => ?_)
  refine (show _ = hla (View.readAt (Elt Ideal) arg12.view (Rect.unit (s := S256x128) ![0, 0] ![256, 128] inb_S256x128_S256x128_0_0).toLoadRect (harg12.unread x12)) i from rfl).trans ?_
  rw [show View.readAt (Elt Ideal) arg12.view (Rect.unit (s := S256x128) ![0, 0] ![256, 128] inb_S256x128_S256x128_0_0).toLoadRect (harg12.unread x12) = x12 from
    rd_whole arg12 harg12 x12 _ off2 _, hla_eq]
  exact lan_at (hsc x12) (fun a => RS (T (row x11 a))) (fun j => hsc_at x12 j _ (hA _)) i

end Cert.Proof.UpValC
end
-- ==== Proof.UpStep.lean ====
/-
  Hand-written, untrusted. A grid step of the gate/up kernel with every buffer named: from what it finds, the step leaves the block
  functions of UpTile in the buffers it writes and the others as they were.
-/
module

public import proofs.«01_k».proof.Proof.UpValA
public import proofs.«01_k».proof.Proof.UpValB
public import proofs.«01_k».proof.Proof.UpValC

@[expose] public section

set_option maxRecDepth 16384

noncomputable section

namespace Cert.Proof.UpStep

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.UpVec Cert.Proof.UpExp Cert.Proof.UpBlk Cert.Proof.UpTile Cert.Proof.UpRun

local notation "𝕄" => MT nD τ sig Unit (Elt Ideal) ℕ (UR sig nD τ) ℕ

/-- A buffer after writes that tile it holds what they leave, whatever it held. -/
theorem owns_of {sp : Space} {s : Shape} {e : EltTy} (c : Dev nD) (arg : Memref sig .tc sp s e) (L : List (View.Piece (Elt Ideal) s e))
    (size : Fin s.rank → ℕ) (hc : View.Piece.tiledL L size = true) (G : s.Idx → Elt Ideal e) (hG : View.canon L = G) :
    iprop(∃ f, arg.view.loc (c : Thread nD τ) ↦[arg.view.set]{fullShare} arg.view.writes (Elt Ideal) f L)
      ⊢ (owns (c : Thread nD τ) arg fullShare G : sProp 𝕄) := by
  iintro ⟨%f, H⟩
  unfold owns
  iexists _
  isplitr
  swap
  · iexact H
  ipureintro
  exact (View.read_writes_eq_canon _ _ _ (View.cover_of_tiledL L size hc)).trans hG

set_option maxHeartbeats 1000000 in
/-- The first step. -/
theorem stepA (c : Dev nD) (i : grid0.Coords) (arg1 : Memref sig .tc .vmem S256x2560 .bf16) (harg1 : arg1.IsWhole) (arg2 : Memref sig .tc .vmem S2560x13824 .fp8e4m3) (harg2 : arg2.IsWhole) (arg3 : Memref sig .tc .vmem S1x13824 .f32) (harg3 : arg3.IsWhole) (arg4 : Memref sig .tc .vmem S256x2560 .fp8e4m3) (harg4 : arg4.IsWhole) (arg5 : Memref sig .tc .vmem S1x2x128 .f32) (harg5 : arg5.IsWhole) (arg6 : Memref sig .tc .vmem S256x6912 .fp8e4m3) (harg6 : arg6.IsWhole) (arg7 : Memref sig .tc .vmem S1x2x128 .f32) (harg7 : arg7.IsWhole) (arg8 : Memref sig .tc .vmem S256x2560 .fp8e4m3) (harg8 : arg8.IsWhole) (arg9 : Memref sig .tc .vmem S256x128 .f32) (harg9 : arg9.IsWhole) (arg10 : Memref sig .tc .vmem S256x128 .f32) (harg10 : arg10.IsWhole) (arg11 : Memref sig .tc .vmem S256x6912 .f32) (harg11 : arg11.IsWhole) (arg12 : Memref sig .tc .vmem S256x128 .f32) (harg12 : arg12.IsWhole) (arg13 : Memref sig .tc .vmem S256x128 .f32) (harg13 : arg13.IsWhole) (hc0 : cond0_0 i) (hc1 : ¬cond0_1 i) (hc2 : ¬cond0_2 i)
    (x1 : Vec Ideal S256x2560 .bf16) (x2 : Vec Ideal S2560x13824 .fp8e4m3) (x3 : Vec Ideal S1x13824 .f32) (x6 : Vec Ideal S256x6912 .fp8e4m3) (x7 : Vec Ideal S1x2x128 .f32)
    (E : Set ℕ) (K : PUnit → sProp 𝕄) :
    iprop(owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x1 ∗ owns (c : Thread nD τ) arg2 fullShare x2 ∗ owns (c : Thread nD τ) arg3 fullShare x3 ∗ owns (c : Thread nD τ) arg4 fullShare (bC x1) ∗ owns (c : Thread nD τ) arg5 fullShare (bL x1) ∗ owns (c : Thread nD τ) arg6 fullShare x6 ∗ owns (c : Thread nD τ) arg7 fullShare x7 ∗ owns (c : Thread nD τ) arg8 fullShare (bC x1) ∗ owns (c : Thread nD τ) arg9 fullShare (bS x1) ∗ (∃ d, owns (c : Thread nD τ) arg10 fullShare d) ∗ owns (c : Thread nD τ) arg11 fullShare ((fun _ => (0 : EReal))) ∗ owns (c : Thread nD τ) arg12 fullShare ((fun _ => (0 : EReal))) ∗ (∃ d, owns (c : Thread nD τ) arg13 fullShare d)) -∗ K ⟨⟩))
      ⊢ wp frame (wpE (defs₀ (F := Ideal)) Variants.none c none) E (cc0_gate_up i arg1 harg1 arg2 harg2 arg3 harg3 arg4 harg4 arg5 harg5 arg6 harg6 arg7 harg7 arg8 harg8 arg9 harg9 arg10 harg10 arg11 harg11 arg12 harg12 arg13 harg13) K := by
  iintro ⟨H1, H2, H3, H4, H5, H6, H7, H8, H9, H10, H11, H12, H13, HK⟩
  iapply ((runA (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x1 x2 x3 x6 x7).2.2.2.2.2.2 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro ⟨H1, H2, H3, H4, H5, H6, H7, H8, H9, H10, H11, H12, H13⟩
  iapply HK
  isplitl [H1]
  · iexact H1
  isplitl [H2]
  · iexact H2
  isplitl [H3]
  · iexact H3
  isplitl [H4]
  · iapply (owns_of c arg4 (runA (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x1 x2 x3 x6 x7).1 ![32, 2560] (by unfold runA; rfl) (bC x1) (UpValA.L4 c i arg1 harg1 arg2 harg2 arg3 harg3 arg4 harg4 arg5 harg5 arg6 harg6 arg7 harg7 arg8 harg8 arg9 harg9 arg10 harg10 arg11 harg11 arg12 harg12 arg13 harg13 hc0 hc1 hc2 x1 x2 x3 x6 x7))
    iexact H4
  isplitl [H5]
  · iapply (owns_of c arg5 (runA (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x1 x2 x3 x6 x7).2.1 ![1, 2, 128] (by unfold runA; rfl) (bL x1) (UpValA.L5 c i arg1 harg1 arg2 harg2 arg3 harg3 arg4 harg4 arg5 harg5 arg6 harg6 arg7 harg7 arg8 harg8 arg9 harg9 arg10 harg10 arg11 harg11 arg12 harg12 arg13 harg13 hc0 hc1 hc2 x1 x2 x3 x6 x7))
    iexact H5
  isplitl [H6]
  · iexact H6
  isplitl [H7]
  · iexact H7
  isplitl [H8]
  · iapply (owns_of c arg8 (runA (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x1 x2 x3 x6 x7).2.2.1 ![256, 2560] (by unfold runA; rfl) (bC x1) (UpValA.L8 c i arg1 harg1 arg2 harg2 arg3 harg3 arg4 harg4 arg5 harg5 arg6 harg6 arg7 harg7 arg8 harg8 arg9 harg9 arg10 harg10 arg11 harg11 arg12 harg12 arg13 harg13 hc0 hc1 hc2 x1 x2 x3 x6 x7))
    iexact H8
  isplitl [H9]
  · iapply (owns_of c arg9 (runA (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x1 x2 x3 x6 x7).2.2.2.1 ![256, 128] (by unfold runA; rfl) (bS x1) (UpValA.L9 c i arg1 harg1 arg2 harg2 arg3 harg3 arg4 harg4 arg5 harg5 arg6 harg6 arg7 harg7 arg8 harg8 arg9 harg9 arg10 harg10 arg11 harg11 arg12 harg12 arg13 harg13 hc0 hc1 hc2 x1 x2 x3 x6 x7))
    iexact H9
  isplitl [H10]
  · iexact H10
  isplitl [H11]
  · iapply (owns_of c arg11 (runA (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x1 x2 x3 x6 x7).2.2.2.2.1 ![256, 6912] (by unfold runA; rfl) ((fun _ => (0 : EReal))) (UpValA.L11 c i arg1 harg1 arg2 harg2 arg3 harg3 arg4 harg4 arg5 harg5 arg6 harg6 arg7 harg7 arg8 harg8 arg9 harg9 arg10 harg10 arg11 harg11 arg12 harg12 arg13 harg13 hc0 hc1 hc2 x1 x2 x3 x6 x7))
    iexact H11
  isplitl [H12]
  · iapply (owns_of c arg12 (runA (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x1 x2 x3 x6 x7).2.2.2.2.2.1 ![256, 128] (by unfold runA; rfl) ((fun _ => (0 : EReal))) (UpValA.L12 c i arg1 harg1 arg2 harg2 arg3 harg3 arg4 harg4 arg5 harg5 arg6 harg6 arg7 harg7 arg8 harg8 arg9 harg9 arg10 harg10 arg11 harg11 arg12 harg12 arg13 harg13 hc0 hc1 hc2 x1 x2 x3 x6 x7))
    iexact H12
  iexact H13

set_option maxHeartbeats 1000000 in
/-- A middle step. -/
theorem stepB (c : Dev nD) (i : grid0.Coords) (arg1 : Memref sig .tc .vmem S256x2560 .bf16) (harg1 : arg1.IsWhole) (arg2 : Memref sig .tc .vmem S2560x13824 .fp8e4m3) (harg2 : arg2.IsWhole) (arg3 : Memref sig .tc .vmem S1x13824 .f32) (harg3 : arg3.IsWhole) (arg4 : Memref sig .tc .vmem S256x2560 .fp8e4m3) (harg4 : arg4.IsWhole) (arg5 : Memref sig .tc .vmem S1x2x128 .f32) (harg5 : arg5.IsWhole) (arg6 : Memref sig .tc .vmem S256x6912 .fp8e4m3) (harg6 : arg6.IsWhole) (arg7 : Memref sig .tc .vmem S1x2x128 .f32) (harg7 : arg7.IsWhole) (arg8 : Memref sig .tc .vmem S256x2560 .fp8e4m3) (harg8 : arg8.IsWhole) (arg9 : Memref sig .tc .vmem S256x128 .f32) (harg9 : arg9.IsWhole) (arg10 : Memref sig .tc .vmem S256x128 .f32) (harg10 : arg10.IsWhole) (arg11 : Memref sig .tc .vmem S256x6912 .f32) (harg11 : arg11.IsWhole) (arg12 : Memref sig .tc .vmem S256x128 .f32) (harg12 : arg12.IsWhole) (arg13 : Memref sig .tc .vmem S256x128 .f32) (harg13 : arg13.IsWhole) (hc0 : ¬cond0_0 i) (hc1 : cond0_1 i) (hc2 : ¬cond0_2 i)
    (x1 : Vec Ideal S256x2560 .bf16) (x2 : Vec Ideal S2560x13824 .fp8e4m3) (x3 : Vec Ideal S1x13824 .f32) (x8 : Vec Ideal S256x2560 .fp8e4m3) (x9 : Vec Ideal S256x128 .f32) (x11 : Vec Ideal S256x6912 .f32) (x12 : Vec Ideal S256x128 .f32)
    (hA : ∀ a, rmax (row x12 a) * Ideal.ofBits .f32 0x3B124925#32 = T (row x11 a))
    (f : Fin 256 → EReal) (hf : ∀ i, x9 i = f (i 0))
    (E : Set ℕ) (K : PUnit → sProp 𝕄) :
    iprop(owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ owns (c : Thread nD τ) arg8 fullShare x8 ∗ owns (c : Thread nD τ) arg9 fullShare x9 ∗ (∃ d, owns (c : Thread nD τ) arg10 fullShare d) ∗ owns (c : Thread nD τ) arg11 fullShare x11 ∗ owns (c : Thread nD τ) arg12 fullShare x12 ∗ (∃ d, owns (c : Thread nD τ) arg13 fullShare d)
        ∗ (iprop(owns (c : Thread nD τ) arg1 fullShare x1 ∗ owns (c : Thread nD τ) arg2 fullShare x2 ∗ owns (c : Thread nD τ) arg3 fullShare x3 ∗ owns (c : Thread nD τ) arg4 fullShare (bC x1) ∗ owns (c : Thread nD τ) arg5 fullShare (bL x1) ∗ owns (c : Thread nD τ) arg6 fullShare (bC x11) ∗ owns (c : Thread nD τ) arg7 fullShare (bL x11) ∗ owns (c : Thread nD τ) arg8 fullShare (bC x1) ∗ owns (c : Thread nD τ) arg9 fullShare (bS x1) ∗ (∃ d, owns (c : Thread nD τ) arg10 fullShare d) ∗ owns (c : Thread nD τ) arg11 fullShare (bH x8 f x2 x3) ∗ owns (c : Thread nD τ) arg12 fullShare (amh (bH x8 f x2 x3) 26) ∗ (∃ d, owns (c : Thread nD τ) arg13 fullShare d)) -∗ K ⟨⟩))
      ⊢ wp frame (wpE (defs₀ (F := Ideal)) Variants.none c none) E (cc0_gate_up i arg1 harg1 arg2 harg2 arg3 harg3 arg4 harg4 arg5 harg5 arg6 harg6 arg7 harg7 arg8 harg8 arg9 harg9 arg10 harg10 arg11 harg11 arg12 harg12 arg13 harg13) K := by
  iintro ⟨H1, H2, H3, H4, H5, H6, H7, H8, H9, H10, H11, H12, H13, HK⟩
  iapply ((runB (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x1 x2 x3 x8 x9 x11 x12).2.2.2.2.2.2.2.2 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro ⟨H1, H2, H3, H4, H5, H6, H7, H8, H9, H10, H11, H12, H13⟩
  iapply HK
  isplitl [H1]
  · iexact H1
  isplitl [H2]
  · iexact H2
  isplitl [H3]
  · iexact H3
  isplitl [H4]
  · iapply (owns_of c arg4 (runB (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x1 x2 x3 x8 x9 x11 x12).1 ![32, 2560] (by unfold runB; rfl) (bC x1) (UpValB.L4 c i arg1 harg1 arg2 harg2 arg3 harg3 arg4 harg4 arg5 harg5 arg6 harg6 arg7 harg7 arg8 harg8 arg9 harg9 arg10 harg10 arg11 harg11 arg12 harg12 arg13 harg13 hc0 hc1 hc2 x1 x2 x3 x8 x9 x11 x12))
    iexact H4
  isplitl [H5]
  · iapply (owns_of c arg5 (runB (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x1 x2 x3 x8 x9 x11 x12).2.1 ![1, 2, 128] (by unfold runB; rfl) (bL x1) (UpValB.L5 c i arg1 harg1 arg2 harg2 arg3 harg3 arg4 harg4 arg5 harg5 arg6 harg6 arg7 harg7 arg8 harg8 arg9 harg9 arg10 harg10 arg11 harg11 arg12 harg12 arg13 harg13 hc0 hc1 hc2 x1 x2 x3 x8 x9 x11 x12))
    iexact H5
  isplitl [H6]
  · iapply (owns_of c arg6 (runB (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x1 x2 x3 x8 x9 x11 x12).2.2.1 ![256, 256] (by unfold runB; rfl) (bC x11) (UpValB.L6 c i arg1 harg1 arg2 harg2 arg3 harg3 arg4 harg4 arg5 harg5 arg6 harg6 arg7 harg7 arg8 harg8 arg9 harg9 arg10 harg10 arg11 harg11 arg12 harg12 arg13 harg13 hc0 hc1 hc2 x1 x2 x3 x8 x9 x11 x12 hA))
    iexact H6
  isplitl [H7]
  · iapply (owns_of c arg7 (runB (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x1 x2 x3 x8 x9 x11 x12).2.2.2.1 ![1, 2, 128] (by unfold runB; rfl) (bL x11) (UpValB.L7 c i arg1 harg1 arg2 harg2 arg3 harg3 arg4 harg4 arg5 harg5 arg6 harg6 arg7 harg7 arg8 harg8 arg9 harg9 arg10 harg10 arg11 harg11 arg12 harg12 arg13 harg13 hc0 hc1 hc2 x1 x2 x3 x8 x9 x11 x12 hA))
    iexact H7
  isplitl [H8]
  · iapply (owns_of c arg8 (runB (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x1 x2 x3 x8 x9 x11 x12).2.2.2.2.1 ![256, 2560] (by unfold runB; rfl) (bC x1) (UpValB.L8 c i arg1 harg1 arg2 harg2 arg3 harg3 arg4 harg4 arg5 harg5 arg6 harg6 arg7 harg7 arg8 harg8 arg9 harg9 arg10 harg10 arg11 harg11 arg12 harg12 arg13 harg13 hc0 hc1 hc2 x1 x2 x3 x8 x9 x11 x12))
    iexact H8
  isplitl [H9]
  · iapply (owns_of c arg9 (runB (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x1 x2 x3 x8 x9 x11 x12).2.2.2.2.2.1 ![256, 128] (by unfold runB; rfl) (bS x1) (UpValB.L9 c i arg1 harg1 arg2 harg2 arg3 harg3 arg4 harg4 arg5 harg5 arg6 harg6 arg7 harg7 arg8 harg8 arg9 harg9 arg10 harg10 arg11 harg11 arg12 harg12 arg13 harg13 hc0 hc1 hc2 x1 x2 x3 x8 x9 x11 x12))
    iexact H9
  isplitl [H10]
  · iexact H10
  isplitl [H11]
  · iapply (owns_of c arg11 (runB (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x1 x2 x3 x8 x9 x11 x12).2.2.2.2.2.2.1 ![256, 256] (by unfold runB; rfl) (bH x8 f x2 x3) (UpValB.L11 c i arg1 harg1 arg2 harg2 arg3 harg3 arg4 harg4 arg5 harg5 arg6 harg6 arg7 harg7 arg8 harg8 arg9 harg9 arg10 harg10 arg11 harg11 arg12 harg12 arg13 harg13 hc0 hc1 hc2 x1 x2 x3 x8 x9 x11 x12 f hf))
    iexact H11
  isplitl [H12]
  · iapply (owns_of c arg12 (runB (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x1 x2 x3 x8 x9 x11 x12).2.2.2.2.2.2.2.1 ![256, 128] (by unfold runB; rfl) (amh (bH x8 f x2 x3) 26) (UpValB.L12 c i arg1 harg1 arg2 harg2 arg3 harg3 arg4 harg4 arg5 harg5 arg6 harg6 arg7 harg7 arg8 harg8 arg9 harg9 arg10 harg10 arg11 harg11 arg12 harg12 arg13 harg13 hc0 hc1 hc2 x1 x2 x3 x8 x9 x11 x12 f hf))
    iexact H12
  iexact H13

set_option maxHeartbeats 1000000 in
/-- The last step. -/
theorem stepC (c : Dev nD) (i : grid0.Coords) (arg1 : Memref sig .tc .vmem S256x2560 .bf16) (harg1 : arg1.IsWhole) (arg2 : Memref sig .tc .vmem S2560x13824 .fp8e4m3) (harg2 : arg2.IsWhole) (arg3 : Memref sig .tc .vmem S1x13824 .f32) (harg3 : arg3.IsWhole) (arg4 : Memref sig .tc .vmem S256x2560 .fp8e4m3) (harg4 : arg4.IsWhole) (arg5 : Memref sig .tc .vmem S1x2x128 .f32) (harg5 : arg5.IsWhole) (arg6 : Memref sig .tc .vmem S256x6912 .fp8e4m3) (harg6 : arg6.IsWhole) (arg7 : Memref sig .tc .vmem S1x2x128 .f32) (harg7 : arg7.IsWhole) (arg8 : Memref sig .tc .vmem S256x2560 .fp8e4m3) (harg8 : arg8.IsWhole) (arg9 : Memref sig .tc .vmem S256x128 .f32) (harg9 : arg9.IsWhole) (arg10 : Memref sig .tc .vmem S256x128 .f32) (harg10 : arg10.IsWhole) (arg11 : Memref sig .tc .vmem S256x6912 .f32) (harg11 : arg11.IsWhole) (arg12 : Memref sig .tc .vmem S256x128 .f32) (harg12 : arg12.IsWhole) (arg13 : Memref sig .tc .vmem S256x128 .f32) (harg13 : arg13.IsWhole) (hc0 : ¬cond0_0 i) (hc1 : ¬cond0_1 i) (hc2 : cond0_2 i)
    (x1 : Vec Ideal S256x2560 .bf16) (x2 : Vec Ideal S2560x13824 .fp8e4m3) (x3 : Vec Ideal S1x13824 .f32) (x4 : Vec Ideal S256x2560 .fp8e4m3) (x5 : Vec Ideal S1x2x128 .f32) (x11 : Vec Ideal S256x6912 .f32) (x12 : Vec Ideal S256x128 .f32)
    (hA : ∀ a, rmax (row x12 a) * Ideal.ofBits .f32 0x3B124925#32 = T (row x11 a))
    (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare x11 ∗ owns (c : Thread nD τ) arg12 fullShare x12 ∗ (∃ d, owns (c : Thread nD τ) arg13 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (bC x11) ∗ owns (c : Thread nD τ) arg7 fullShare (bL x11) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare x11 ∗ owns (c : Thread nD τ) arg12 fullShare x12 ∗ (∃ d, owns (c : Thread nD τ) arg13 fullShare d)) -∗ K ⟨⟩))
      ⊢ wp frame (wpE (defs₀ (F := Ideal)) Variants.none c none) E (cc0_gate_up i arg1 harg1 arg2 harg2 arg3 harg3 arg4 harg4 arg5 harg5 arg6 harg6 arg7 harg7 arg8 harg8 arg9 harg9 arg10 harg10 arg11 harg11 arg12 harg12 arg13 harg13) K := by
  iintro ⟨H1, H2, H3, H4, H5, H6, H7, H8, H9, H10, H11, H12, H13, HK⟩
  iapply ((runC (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x1 x2 x3 x4 x5 x11 x12).2.2 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro ⟨H1, H2, H3, H4, H5, H6, H7, H8, H9, H10, H11, H12, H13⟩
  iapply HK
  isplitl [H1]
  · iexact H1
  isplitl [H2]
  · iexact H2
  isplitl [H3]
  · iexact H3
  isplitl [H4]
  · iexact H4
  isplitl [H5]
  · iexact H5
  isplitl [H6]
  · iapply (owns_of c arg6 (runC (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x1 x2 x3 x4 x5 x11 x12).1 ![256, 256] (by unfold runC; rfl) (bC x11) (UpValC.L6 c i arg1 harg1 arg2 harg2 arg3 harg3 arg4 harg4 arg5 harg5 arg6 harg6 arg7 harg7 arg8 harg8 arg9 harg9 arg10 harg10 arg11 harg11 arg12 harg12 arg13 harg13 hc0 hc1 hc2 x1 x2 x3 x4 x5 x11 x12 hA))
    iexact H6
  isplitl [H7]
  · iapply (owns_of c arg7 (runC (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x1 x2 x3 x4 x5 x11 x12).2.1 ![1, 2, 128] (by unfold runC; rfl) (bL x11) (UpValC.L7 c i arg1 harg1 arg2 harg2 arg3 harg3 arg4 harg4 arg5 harg5 arg6 harg6 arg7 harg7 arg8 harg8 arg9 harg9 arg10 harg10 arg11 harg11 arg12 harg12 arg13 harg13 hc0 hc1 hc2 x1 x2 x3 x4 x5 x11 x12 hA))
    iexact H7
  isplitl [H8]
  · iexact H8
  isplitl [H9]
  · iexact H9
  isplitl [H10]
  · iexact H10
  isplitl [H11]
  · iexact H11
  isplitl [H12]
  · iexact H12
  iexact H13

end Cert.Proof.UpStep
end
-- ==== Proof.UpMax.lean ====
/-
  Hand-written, untrusted. The largest lane of the running maxima of a block is the largest magnitude of its row, so the threshold the
  kernel takes from its lanes is the row's own (`lanes_T`); and the same for a block of zeros (`zero_T`).
-/
module

public import proofs.«01_k».proof.Proof.UpTile

@[expose] public section

set_option maxRecDepth 16384

noncomputable section

namespace Cert.Proof.UpMax

open Cert.UpIdeal Cert.UpIdeal.Gen
open Idealize.ShloMosaic
open Cert.Proof.UpVec Cert.Proof.UpExp Cert.Proof.UpBlk Cert.Proof.UpTile

/-- A row's maximum is below a bound exactly when the start value and every entry are. -/
theorem rmax_le {k : ℕ} (f : Fin k → EReal) (t : EReal) : rmax f ≤ t ↔ Ideal.ofBits .f32 0xFF800000#32 ≤ t ∧ ∀ b, f b ≤ t := by
  unfold rmax
  rw [Finset.fold_max_le]
  simp

theorem amh_le (h : (M 256 6912).Idx → EReal) (n : ℕ) (i : S256x128.Idx) (t : EReal) :
    amh h n i ≤ t ↔ ∀ p, p ≤ n → am1 h p i ≤ t := by
  induction n with
  | zero => exact ⟨fun H p hp => by rw [Nat.le_zero.mp hp]; exact H, fun H => H 0 le_rfl⟩
  | succ n ih =>
    refine (max_le_iff (a := amh h n i) (b := am1 h (n + 1) i)).trans ?_
    rw [ih]
    constructor
    · rintro ⟨H1, H2⟩ p hp
      rcases Nat.lt_or_ge p (n + 1) with hq | hq
      · exact H1 p (by omega)
      · rw [show p = n + 1 by omega]; exact H2
    · exact fun H => ⟨fun p hp => H p (by omega), H _ le_rfl⟩

theorem mag_le (h : (M 256 6912).Idx → EReal) (a : Fin 256) (t : EReal) (H : ∀ b : Fin 6912, max (h (ix2 a b)) (-h (ix2 a b)) ≤ t) (n : ℕ) :
    mag h a n ≤ t := by
  unfold mag
  split
  · exact H _
  · exact bot_le

theorem am1_le (h : (M 256 6912).Idx → EReal) (p : ℕ) (i : S256x128.Idx) (t : EReal) :
    am1 h p i ≤ t ↔ mag h (i 0) (256 * p + i 1) ≤ t ∧ mag h (i 0) (256 * p + 128 + i 1) ≤ t :=
  max_le_iff (a := mag h (i 0) (256 * p + i 1)) (b := mag h (i 0) (256 * p + 128 + i 1))

/-- The largest lane is the row's largest magnitude. -/
theorem lanes (h : (M 256 6912).Idx → EReal) (a : Fin 256) :
    rmax (row (r := 256) (k := 128) (amh h 26) a) = rmax (fun b => max (row h a b) (-row h a b)) := by
  refine eq_of_forall_ge_iff fun t => ?_
  refine (rmax_le _ t).trans (Iff.trans ?_ (rmax_le _ t).symm)
  refine and_congr_right fun _ => ?_
  constructor
  · intro H b
    have hb : (b : ℕ) < 6912 := b.isLt
    have e : ∀ n : ℕ, n = b → mag h a n ≤ t → max (row h a b) (-row h a b) ≤ t := by
      intro n hn hm
      subst hn
      unfold mag at hm
      rw [dif_pos hb] at hm
      exact hm
    rcases Nat.lt_or_ge ((b : ℕ) % 256) 128 with hr | hr
    · have H1 := (am1_le h (b / 256) (ix2 a ⟨(b : ℕ) % 256, hr⟩) t).mp ((amh_le h 26 _ t).mp (H ⟨(b : ℕ) % 256, hr⟩) (b / 256) (by omega))
      exact e (256 * (b / 256) + (b : ℕ) % 256) (by omega) H1.1
    · have H1 := (am1_le h (b / 256) (ix2 a ⟨(b : ℕ) % 256 - 128, by omega⟩) t).mp ((amh_le h 26 _ t).mp (H ⟨(b : ℕ) % 256 - 128, by omega⟩) (b / 256) (by omega))
      exact e (256 * (b / 256) + 128 + ((b : ℕ) % 256 - 128)) (by omega) H1.2
  · exact fun H b => (amh_le h 26 _ t).mpr fun p _ => (am1_le h p _ t).mpr ⟨mag_le h a t H _, mag_le h a t H _⟩

/-- So the threshold from the lanes is the row's. -/
theorem lanes_T (h : (M 256 6912).Idx → EReal) (a : Fin 256) :
    rmax (row (r := 256) (k := 128) (amh h 26) a) * Ideal.ofBits .f32 0x3B124925#32 = T (row h a) :=
  congrArg (fun v : EReal => v * Ideal.ofBits .f32 0x3B124925#32) (lanes h a)

theorem zeros {k k' : ℕ} (hk : 0 < k) (hk' : 0 < k') (f : Fin k → EReal) (g : Fin k' → EReal) (hf : ∀ b, f b = 0) (hg : ∀ b, g b = 0) :
    rmax f = rmax g := by
  refine eq_of_forall_ge_iff fun t => ?_
  refine (rmax_le _ t).trans (Iff.trans ?_ (rmax_le _ t).symm)
  refine and_congr_right fun _ => ?_
  exact ⟨fun H b => by rw [hg b, ← hf ⟨0, hk⟩]; exact H _, fun H b => by rw [hf b, ← hg ⟨0, hk'⟩]; exact H _⟩

/-- The thresholds of zeros. -/
theorem zero_T (a : Fin 256) :
    rmax (row (r := 256) (k := 128) (fun _ => (0 : EReal)) a) * Ideal.ofBits .f32 0x3B124925#32 = T (row (r := 256) (k := 6912) (fun _ => (0 : EReal)) a) :=
  congrArg (fun v : EReal => v * Ideal.ofBits .f32 0x3B124925#32)
    (zeros (by omega) (by omega) _ _ (fun _ => rfl) fun b => by show max (0 : EReal) (-0) = 0; simp)

end Cert.Proof.UpMax
end
-- ==== Proof.UpDat.lean ====
/-
  Hand-written, untrusted. The gate/up kernel over its grid: what each buffer holds before and after every grid step (`dats`, the carried
  scratch in `PhiS`), that the steps keep it so (`sound_body`), and the run that follows (`run_main`). Step `t` codes block `t` of the
  input, multiplies the codes of block `t - 1` into the gated product `Hn t`, and codes the product `Hn (t - 1)` of the step before.
-/
module

public import proofs.«01_k».proof.Proof.UpStep
public import proofs.«01_k».proof.Proof.UpMax

@[expose] public section

set_option maxRecDepth 16384

noncomputable section

namespace Cert.Proof.UpDat

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.UpVec Cert.Proof.UpExp Cert.Proof.UpBlk Cert.Proof.UpTile Cert.Proof.UpRun

local notation "𝕄" => MT nD τ sig Unit (Elt Ideal) ℕ (UR sig nD τ) ℕ

variable (m : (ℓ : Loc nD τ sig) → Buf (Elt Ideal) ℓ) (ρ : Dev nD → PrngReg)

/-- The blocks of the input, the weights and their scales at a point. -/
abbrev B0 (c : Dev nD) (t : Fin cfg0.N) : Vec Ideal S256x2560 .bf16 := iblk m c 0 t
abbrev B1 (c : Dev nD) (t : Fin cfg0.N) : Vec Ideal S2560x13824 .fp8e4m3 := iblk m c 1 t
abbrev B2 (c : Dev nD) (t : Fin cfg0.N) : Vec Ideal S1x13824 .f32 := iblk m c 2 t

/-- The gated product held after step `n`: zeros after the first, then the product of the block before. -/
def Hn (c : Dev nD) : (n : ℕ) → n < cfg0.N → Vec Ideal S256x6912 .f32
  | 0, _ => fun _ => (0 : EReal)
  | n + 1, hn => bH (bC (B0 m c ⟨n, Nat.lt_of_succ_lt hn⟩)) (fun a => qs (row (B0 m c ⟨n, Nat.lt_of_succ_lt hn⟩) a)) (B1 m c ⟨n + 1, hn⟩) (B2 m c ⟨n + 1, hn⟩)
/-- The maxima of its lanes. -/
def An (c : Dev nD) : (n : ℕ) → n < cfg0.N → Vec Ideal S256x128 .f32
  | 0, _ => fun _ => (0 : EReal)
  | n + 1, hn => amh (Hn m c (n + 1) hn) 26

/-- The lanes give the product's thresholds. -/
theorem An_T (c : Dev nD) (n : ℕ) (hn : n < cfg0.N) (a : Fin 256) :
    rmax (row (An m c n hn) a) * Ideal.ofBits .f32 0x3B124925#32 = T (row (Hn m c n hn) a) := by
  cases n with
  | zero => exact UpMax.zero_T a
  | succ n => exact UpMax.lanes_T _ a

theorem prev (t : Fin cfg0.N) : t.val - 1 < cfg0.N := Nat.lt_of_le_of_lt (Nat.sub_le _ _) t.isLt

/-- The carried scratch after step `n`. -/
def Nam (c : Dev nD) (n : ℕ) (hn : n < cfg0.N) : sProp 𝕄 :=
  iprop(iprop(owns (c : Thread nD τ) scM0_0 fullShare (bC (B0 m c ⟨n, hn⟩)) ∗ owns (c : Thread nD τ) scM0_1 fullShare (bS (B0 m c ⟨n, hn⟩)) ∗ (∃ d, owns (c : Thread nD τ) scM0_2 fullShare d) ∗ owns (c : Thread nD τ) scM0_3 fullShare (Hn m c n hn) ∗ owns (c : Thread nD τ) scM0_4 fullShare (An m c n hn) ∗ (∃ d, owns (c : Thread nD τ) scM0_5 fullShare d)) ∗ (∃ r, prngReg c r))

/-- The invariant before point `n`: the scratch at anything before the first point and after the last, as the step before left it
    in between. -/
def PhiS (c : Dev nD) (n : ℕ) (hn : n ≤ cfg0.N) : sProp 𝕄 :=
  if h : n = 0 ∨ n = 130 then Pipeline.ΦA spec0 c
  else Nam m c (n - 1) (by have : cfg0.N = 130 := N_0; omega)

/-- The proof data. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => bC (B0 m c t)
    | ⟨4, _⟩ => bL (B0 m c t)
    | ⟨5, _⟩ => bC (Hn m c (t.val - 1) (prev t))
    | ⟨6, _⟩ => bL (Hn m c (t.val - 1) (prev t))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem Phi_castSucc (c : Dev nD) (t : Fin cfg0.N) :
    (dats m 0 c).Φ t.castSucc = PhiS m c t.val (Nat.le_of_lt t.isLt) := by
  dsimp only [dats]; exact Pipeline.Dat.Φ_castSucc (PhiS m c) t
theorem Phi_succ (c : Dev nD) (t : Fin cfg0.N) : (dats m 0 c).Φ t.succ = PhiS m c (t.val + 1) t.isLt := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = bC (B0 m c t) := by dsimp only [dats]
theorem after0_4 (c : Dev nD) (t : Fin cfg0.N) : (dats m 0 c).after 4 t = bL (B0 m c t) := by dsimp only [dats]
theorem after0_5 (c : Dev nD) (t : Fin cfg0.N) : (dats m 0 c).after 5 t = bC (Hn m c (t.val - 1) (prev t)) := by dsimp only [dats]
theorem after0_6 (c : Dev nD) (t : Fin cfg0.N) : (dats m 0 c).after 6 t = bL (Hn m c (t.val - 1) (prev t)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## Where the outputs are idle and written back -/

theorem live3 : ∀ t : Fin cfg0.N, t.val ≠ 129 → cfg0.idle 3 (grid0.coords t) = false :=
  (by decide +kernel : ∀ t : Fin grid0.N, t.val ≠ 129 → idle0 3 (grid0.coords t) = false)
theorem live4 : ∀ t : Fin cfg0.N, t.val ≠ 129 → cfg0.idle 4 (grid0.coords t) = false :=
  (by decide +kernel : ∀ t : Fin grid0.N, t.val ≠ 129 → idle0 4 (grid0.coords t) = false)
theorem flush3 : ∀ t : Fin cfg0.N, t.val = 129 → (cfg0.win 3).flush t = true :=
  (by decide +kernel : ∀ t : Fin grid0.N, t.val = 129 → win0_3.flush t = true)
theorem flush4 : ∀ t : Fin cfg0.N, t.val = 129 → (cfg0.win 4).flush t = true :=
  (by decide +kernel : ∀ t : Fin grid0.N, t.val = 129 → win0_4.flush t = true)
theorem noflush3 : ∀ t : Fin cfg0.N, t.val = 128 → (cfg0.win 3).flush t = false :=
  (by decide +kernel : ∀ t : Fin grid0.N, t.val = 128 → win0_3.flush t = false)
theorem noflush4 : ∀ t : Fin cfg0.N, t.val = 128 → (cfg0.win 4).flush t = false :=
  (by decide +kernel : ∀ t : Fin grid0.N, t.val = 128 → win0_4.flush t = false)
theorem live5 : ∀ t : Fin cfg0.N, t.val ≠ 0 → cfg0.idle 5 (grid0.coords t) = false :=
  (by decide +kernel : ∀ t : Fin grid0.N, t.val ≠ 0 → idle0 5 (grid0.coords t) = false)
theorem live6 : ∀ t : Fin cfg0.N, t.val ≠ 0 → cfg0.idle 6 (grid0.coords t) = false :=
  (by decide +kernel : ∀ t : Fin grid0.N, t.val ≠ 0 → idle0 6 (grid0.coords t) = false)
theorem idle5 : ∀ t : Fin cfg0.N, t.val = 0 → cfg0.idle 5 (grid0.coords t) = true :=
  (by decide +kernel : ∀ t : Fin grid0.N, t.val = 0 → idle0 5 (grid0.coords t) = true)
theorem idle6 : ∀ t : Fin cfg0.N, t.val = 0 → cfg0.idle 6 (grid0.coords t) = true :=
  (by decide +kernel : ∀ t : Fin grid0.N, t.val = 0 → idle0 6 (grid0.coords t) = true)
theorem noflush5 : ∀ t : Fin cfg0.N, t.val = 0 → (cfg0.win 5).flush t = false :=
  (by decide +kernel : ∀ t : Fin grid0.N, t.val = 0 → win0_5.flush t = false)
theorem noflush6 : ∀ t : Fin cfg0.N, t.val = 0 → (cfg0.win 6).flush t = false :=
  (by decide +kernel : ∀ t : Fin grid0.N, t.val = 0 → win0_6.flush t = false)

theorem leaves_in0 (c : Dev nD) (t : Fin cfg0.N) : (dats m 0 c).leavesExact 0 t = owns (c : Thread nD τ) (ms0_0 t) fullShare (iblk m c 0 t) := by
  unfold Dat.leavesExact; rw [liveAt0_0 t, after0_0]
theorem leaves_in1 (c : Dev nD) (t : Fin cfg0.N) : (dats m 0 c).leavesExact 1 t = owns (c : Thread nD τ) (ms0_1 t) fullShare (iblk m c 1 t) := by
  unfold Dat.leavesExact; rw [liveAt0_1 t, after0_1]
theorem leaves_in2 (c : Dev nD) (t : Fin cfg0.N) : (dats m 0 c).leavesExact 2 t = owns (c : Thread nD τ) (ms0_2 t) fullShare (iblk m c 2 t) := by
  unfold Dat.leavesExact; rw [liveAt0_2 t, after0_2]
theorem leaves3 (c : Dev nD) (t : Fin cfg0.N) : (dats m 0 c).leavesExact 3 t = owns (c : Thread nD τ) (ms0_3 t) fullShare (bC (B0 m c t)) := by
  unfold Dat.leavesExact
  by_cases h : t.val = 129
  · rw [flush3 t h]
    rw [after0_3]
    cases cfg0.idle 3 (cfg0.grid.coords t) <;> rfl
  · rw [live3 t h, after0_3]
theorem leaves4 (c : Dev nD) (t : Fin cfg0.N) : (dats m 0 c).leavesExact 4 t = owns (c : Thread nD τ) (ms0_4 t) fullShare (bL (B0 m c t)) := by
  unfold Dat.leavesExact
  by_cases h : t.val = 129
  · rw [flush4 t h]
    rw [after0_4]
    cases cfg0.idle 4 (cfg0.grid.coords t) <;> rfl
  · rw [live4 t h, after0_4]
theorem leaves5 (c : Dev nD) (t : Fin cfg0.N) (h : t.val ≠ 0) :
    (dats m 0 c).leavesExact 5 t = owns (c : Thread nD τ) (ms0_5 t) fullShare (bC (Hn m c (t.val - 1) (prev t))) := by
  unfold Dat.leavesExact; rw [live5 t h, after0_5]
theorem leaves5_first (c : Dev nD) (t : Fin cfg0.N) (h : t.val = 0) :
    (dats m 0 c).leavesExact 5 t = iprop(∃ d, owns (c : Thread nD τ) (ms0_5 t) fullShare ((dats m 0 c).before 5 t d)) :=
  (dats m 0 c).leavesExact_idle 5 t (idle5 t h) (noflush5 t h)
theorem leaves6 (c : Dev nD) (t : Fin cfg0.N) (h : t.val ≠ 0) :
    (dats m 0 c).leavesExact 6 t = owns (c : Thread nD τ) (ms0_6 t) fullShare (bL (Hn m c (t.val - 1) (prev t))) := by
  unfold Dat.leavesExact; rw [live6 t h, after0_6]
theorem leaves6_first (c : Dev nD) (t : Fin cfg0.N) (h : t.val = 0) :
    (dats m 0 c).leavesExact 6 t = iprop(∃ d, owns (c : Thread nD τ) (ms0_6 t) fullShare ((dats m 0 c).before 6 t d)) :=
  (dats m 0 c).leavesExact_idle 6 t (idle6 t h) (noflush6 t h)

/-- Where window 0's block lies. -/
theorem idx0 : ∀ t : Fin cfg0.N, win0_0.index t = ![min t.val 127, 0] :=
  (by decide +kernel : ∀ t : Fin grid0.N, win0_0.index t = ![min t.val 127, 0])

/-- The last point and the one before it have the same block of the input. -/
theorem same (c : Dev nD) (t t' : Fin cfg0.N) (h : t.val = 129) (h' : t'.val = 128) : B0 m c t' = B0 m c t := by
  have e : win0_0.index t' = win0_0.index t := by rw [idx0, idx0, h, h']; rfl
  funext j
  unfold B0 iblk
  rw [View.read_apply, View.read_apply]
  show _root_.cast _ (V m c (Pipeline.arrRef spec0 0) (((cfg0.win 0).arr.view.emb (((cfg0.win 0).rect t').emb _)))) = _root_.cast _ (V m c (Pipeline.arrRef spec0 0) (((cfg0.win 0).arr.view.emb (((cfg0.win 0).rect t).emb _))))
  congr 3
  funext a; apply Fin.ext
  rw [Rect.emb_apply, Rect.emb_apply]
  show win0_0.kind.off (win0_0.index t' a) (win0_0.size a) + 1 * (j a).val = win0_0.kind.off (win0_0.index t a) (win0_0.size a) + 1 * (j a).val
  rw [e]

/-- At the last point window 3's buffer still holds what the point before left. -/
theorem before3 (c : Dev nD) (t : Fin cfg0.N) (h : t.val = 129) (d) : (dats m 0 c).before 3 t d = bC (B0 m c t) := by
  have h' : (⟨t.val - 1, prev t⟩ : Fin cfg0.N).val = 128 := by show t.val - 1 = 128; omega
  rw [(dats m 0 c).before_of_pos 3 t (by omega) rfl d]
  rw [noflush3 _ h', if_neg Bool.false_ne_true]
  unfold Dat.left
  rw [live3 _ (by omega)]
  refine (show _ = (dats m 0 c).after 3 ⟨t.val - 1, prev t⟩ from rfl).trans ?_
  rw [after0_3, same m c t _ h h']
/-- At the last point window 4's buffer still holds what the point before left. -/
theorem before4 (c : Dev nD) (t : Fin cfg0.N) (h : t.val = 129) (d) : (dats m 0 c).before 4 t d = bL (B0 m c t) := by
  have h' : (⟨t.val - 1, prev t⟩ : Fin cfg0.N).val = 128 := by show t.val - 1 = 128; omega
  rw [(dats m 0 c).before_of_pos 4 t (by omega) rfl d]
  rw [noflush4 _ h', if_neg Bool.false_ne_true]
  unfold Dat.left
  rw [live4 _ (by omega)]
  refine (show _ = (dats m 0 c).after 4 ⟨t.val - 1, prev t⟩ from rfl).trans ?_
  rw [after0_4, same m c t _ h h']

/-! ## The invariant at the points -/

theorem PhiS_out (c : Dev nD) (n : ℕ) (hn : n ≤ cfg0.N) (h : n = 0 ∨ n = 130) : PhiS m c n hn = Pipeline.ΦA spec0 c := dif_pos h
theorem PhiS_mid (c : Dev nD) (n : ℕ) (hn : n ≤ cfg0.N) (h : ¬(n = 0 ∨ n = 130)) :
    PhiS m c n hn = Nam m c (n - 1) (by have : cfg0.N = 130 := N_0; omega) := dif_neg h
theorem Phi_after (c : Dev nD) (t : Fin cfg0.N) (h : t.val ≠ 129) : PhiS m c (t.val + 1) t.isLt = Nam m c t.val t.isLt :=
  PhiS_mid m c (t.val + 1) t.isLt (by have : cfg0.N = 130 := N_0; have := t.isLt; omega)

/-! ## The body at any point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem HN0 (c : Dev nD) (t : Fin cfg0.N) (ht : t.val = 0) : Hn m c t.val t.isLt = fun _ => (0 : EReal) := by
  obtain ⟨n, hn⟩ := t
  subst ht
  rfl
theorem AN0 (c : Dev nD) (t : Fin cfg0.N) (ht : t.val = 0) : An m c t.val t.isLt = fun _ => (0 : EReal) := by
  obtain ⟨n, hn⟩ := t
  subst ht
  rfl
theorem HN1 (c : Dev nD) (t : Fin cfg0.N) (ht : 1 ≤ t.val ∧ t.val ≤ 128) : Hn m c t.val t.isLt
    = bH (bC (B0 m c ⟨t.val - 1, prev t⟩)) (fun a => qs (row (B0 m c ⟨t.val - 1, prev t⟩) a)) (iblk m c 1 t) (iblk m c 2 t) := by
  obtain ⟨n, hn⟩ := t
  cases n with
  | zero => exact absurd (show 1 ≤ 0 from ht.1) (by omega)
  | succ n => rfl
theorem AN1 (c : Dev nD) (t : Fin cfg0.N) (ht : 1 ≤ t.val ∧ t.val ≤ 128) : An m c t.val t.isLt
    = amh (bH (bC (B0 m c ⟨t.val - 1, prev t⟩)) (fun a => qs (row (B0 m c ⟨t.val - 1, prev t⟩) a)) (iblk m c 1 t) (iblk m c 2 t)) 26 := by
  obtain ⟨n, hn⟩ := t
  cases n with
  | zero => exact absurd (show 1 ≤ 0 from ht.1) (by omega)
  | succ n => rfl

set_option maxHeartbeats 4000000 in
/-- The body at the first point. -/
theorem sound_A (c : Dev nD) (t : Fin cfg0.N) (ht : t.val = 0) :
    bodyPre m c t ⊢ wp frame (wpE (defs₀ (F := Ideal)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl, Phi_castSucc, Phi_succ,
    leaves_in0, leaves_in1, leaves_in2, leaves3, leaves4]
  rw [leaves5_first m c t ht, leaves6_first m c t ht, PhiS_out m c t.val _ (Or.inl ht), PhiA0_eq, Phi_after m c t (by omega)]
  unfold Nam
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩⟩
  iapply (UpStep.stepA c (grid0.coords t) _ _ _ _ _ _ _ _ _ _ _ _ _ _ _ _ _ _ _ _ _ _ _ _ _ _ ((hcond0_0 t).mpr (by omega)) (fun h => absurd ((hcond0_1 t).mp h) (by omega)) (fun h => absurd ((hcond0_2 t).mp h) (by omega)) (iblk m c 0 t) (iblk m c 1 t) (iblk m c 2 t) _ _ Set.univ _)
  isplitl [H0]; · iexact H0
  isplitl [H1]; · iexact H1
  isplitl [H2]; · iexact H2
  isplitl [H3]; · iexists _; iexact H3
  isplitl [H4]; · iexists _; iexact H4
  isplitl [H5]; · iexact H5
  isplitl [H6]; · iexact H6
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · rw [HN0 m c t ht]; iexact HS3
      isplitl [HS4]; · rw [AN0 m c t ht]; iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexists _; iexact H6

set_option maxHeartbeats 4000000 in
/-- The body at a middle point. -/
theorem sound_B (c : Dev nD) (t : Fin cfg0.N) (ht : 1 ≤ t.val ∧ t.val ≤ 128) :
    bodyPre m c t ⊢ wp frame (wpE (defs₀ (F := Ideal)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl, Phi_castSucc, Phi_succ,
    leaves_in0, leaves_in1, leaves_in2, leaves3, leaves4]
  rw [leaves5 m c t (by omega), leaves6 m c t (by omega), PhiS_mid m c t.val _ (by omega), Phi_after m c t (by omega)]
  unfold Nam
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩⟩
  iapply (UpStep.stepB c (grid0.coords t) _ _ _ _ _ _ _ _ _ _ _ _ _ _ _ _ _ _ _ _ _ _ _ _ _ _ (fun h => absurd ((hcond0_0 t).mp h) (by omega)) ((hcond0_1 t).mpr (by omega)) (fun h => absurd ((hcond0_2 t).mp h) (by omega)) (iblk m c 0 t) (iblk m c 1 t) (iblk m c 2 t) _ _ _ _ (An_T m c (t.val - 1) (prev t)) (fun a => qs (row (B0 m c ⟨t.val - 1, prev t⟩) a)) (fun _ => rfl) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · rw [HN1 m c t ht]; iexact HS3
      isplitl [HS4]; · rw [AN1 m c t ht]; iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 4000000 in
/-- The body at the last point. -/
theorem sound_C (c : Dev nD) (t : Fin cfg0.N) (ht : t.val = 129) :
    bodyPre m c t ⊢ wp frame (wpE (defs₀ (F := Ideal)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl, Phi_castSucc, Phi_succ,
    leaves_in0, leaves_in1, leaves_in2, leaves3, leaves4]
  simp only [before3 m c t ht, before4 m c t ht]
  rw [leaves5 m c t (by omega), leaves6 m c t (by omega), PhiS_mid m c t.val _ (by omega), PhiS_out m c (t.val + 1) _ (Or.inr (by omega)), PhiA0_eq]
  unfold Nam
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩⟩
  iapply (UpStep.stepC c (grid0.coords t) _ _ _ _ _ _ _ _ _ _ _ _ _ _ _ _ _ _ _ _ _ _ _ _ _ _ (fun h => absurd ((hcond0_0 t).mp h) (by omega)) (fun h => absurd ((hcond0_1 t).mp h) (by omega)) ((hcond0_2 t).mpr (by omega)) (iblk m c 0 t) (iblk m c 1 t) (iblk m c 2 t) _ _ _ _ (An_T m c (t.val - 1) (prev t)) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexists _; iexact HS0
  isplitl [HS1]; · iexists _; iexact HS1
  isplitl [HS2]; · iexact HS2
  isplitl [HS3]; · iexact HS3
  isplitl [HS4]; · iexact HS4
  isplitl [HS5]; · iexact HS5
  iintro ⟨H0, H1, H2, H3, H4, H5, H6, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexists _; iexact HS3
      isplitl [HS4]; · iexists _; iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem sound_body (c : Dev nD) (t : Fin cfg0.N) :
    bodyPre m c t ⊢ wp frame (wpE (defs₀ (F := Ideal)) Variants.none c none) Set.univ (bodyAt0 t) (fun _ => bodyPost m c t) := by
  have hN : t.val < 130 := lt_of_lt_of_eq t.isLt (show cfg0.N = 130 from N_0)
  by_cases h0 : t.val = 0
  · exact sound_A m c t h0
  · by_cases h1 : t.val = 129
    · exact sound_C m c t h1
    · exact sound_B m c t ⟨by omega, by omega⟩

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_out m c 0 _ (Or.inl rfl)]
  try exact Idealize.SL.BI.Entails.refl _
theorem hout (c : Dev nD) : (dats m 0 c).Φ (Fin.last cfg0.N) ⊢ Pipeline.ΦA spec0 c := by
  rw [show (dats m 0 c).Φ (Fin.last cfg0.N) = PhiS m c cfg0.N le_rfl from rfl, PhiS_out m c cfg0.N _ (Or.inr N_0)]
  try exact Idealize.SL.BI.Entails.refl _

-- the launch theorem's implicit arguments are found by unifying its conclusion with this one
set_option backward.isDefEq.respectTransparency.types false in
/-- Every execution terminates, every array of the pipeline as the steps' write-backs leave it. -/
theorem run_main : θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.Proof.UpDat
end
-- ==== Proof.UpRef.lean ====
/-
  Hand-written, untrusted. What the reference of the gate/up call computes: its four results are `UpVec.XC`, `XS`, `HC`, `HS` of the
  arguments, row by row.
-/
module

public import proofs.«01_k».proof.Proof.Gen.RefUpIdeal.Value
public import proofs.«01_k».proof.Proof.UpVec
public import Idealize.ShloMosaic.Lib.Pipeline.ValueKit

@[expose] public section

set_option maxRecDepth 16384

noncomputable section

namespace Cert.Proof.RefUp

open Idealize.ShloMosaic Idealize.ShloMosaic.TcCoe Idealize.SL.Sem
open Idealize.ShloMosaic.Pipeline (Dat)
open Cert.RefUpIdeal Cert.RefUpIdeal.Gen
open Cert.Proof.UpExp Cert.Proof.UpVec

theorem pay4_eq (X : Vec Ideal S32768x2560 .bf16) : k0_pay4 (F := Ideal) X = X := shapeCast_self _ _

theorem pay5_eq (X : Vec Ideal S32768x2560 .bf16) : k0_pay5 (F := Ideal) X
    = refE (r := 32768) (thr (r := 32768) (k := 2560) (k0_pay4 (F := Ideal) X) reduces_S32768x2560_S32768 (.inl rfl) rfl shapeCasts_S32768_S32768x1)
        iota_S1x253_d1_w32 broadcasts_S1x253_S32768x253 broadcasts_S32768x1_S32768x253 shapeCasts_S1x253_S1x253 reduces_S32768x253_S32768
        (.inl rfl) rfl shapeCasts_S32768_S32768x1 := by
  unfold k0_pay5 refE thr
  rfl

/-- The exponent of a row of the input. -/
theorem pay5_at (X : Vec Ideal S32768x2560 .bf16) (i : S32768x1.Idx) : k0_pay5 (F := Ideal) X i = RE (T (row (r := 32768) (k := 2560) X (i 0))) := by
  refine (congrFun (pay5_eq X) i).trans ((refE_at _ _ _ _ _ _ _ _ _ i).trans (congrArg RE ((thr_at _ _ _ _ _ i).trans ?_)))
  rw [pay4_eq]

theorem pay7_eq (X : Vec Ideal S32768x2560 .bf16) : k0_pay7 (F := Ideal) (k0_pay6 X)
    = refQ (r := 32768) (k := 2560) (k0_pay4 (F := Ideal) X) (k0_pay5 (F := Ideal) X) broadcasts_S32768x1_S32768x2560 bitsLt_fp8e4m3_f32 := by
  unfold k0_pay7 k0_pay6 refQ
  rfl

/-- A code of the input. -/
theorem pay7_at (X : Vec Ideal S32768x2560 .bf16) (i : S32768x2560.Idx) :
    k0_pay7 (F := Ideal) (k0_pay6 X) i = qc (row (r := 32768) (k := 2560) X (i 0)) (i 1) := by
  rw [pay7_eq, refQ_at (t := T (row (r := 32768) (k := 2560) X (i 0))) (he := pay5_at X _), pay4_eq]
  refine congrArg (fun j => code (X j) _) (funext fun c => ?_)
  match c with
  | ⟨0, _⟩ => rfl
  | ⟨1, _⟩ => rfl

/-- A scale of the input. -/
theorem pay8_at (X : Vec Ideal S32768x2560 .bf16) (a : Fin 32768) :
    k0_pay8 (F := Ideal) (k0_pay5 X) (ix2 a 0) = qs (row (r := 32768) (k := 2560) X a) :=
  exp2_at _ _ _ (pay5_at X (ix2 a 0))

theorem pay9_eq (X : Vec Ideal S32768x2560 .bf16) (W : Vec Ideal S2560x13824 .fp8e4m3) (S : Vec Ideal S1x13824 .f32) :
    k0_pay9 (F := Ideal) (k0_pay5 X) (k0_pay6 X) W S
      = refH (r := 32768) (refG (r := 32768) (k0_pay7 (F := Ideal) (k0_pay6 X)) (k0_pay8 (F := Ideal) (k0_pay5 X)) W S
          broadcasts_S32768x1_S32768x13824 shapeCasts_S1x13824_S1x13824 broadcasts_S1x13824_S32768x13824)
          slices_S32768x13824_o0_0_S32768x6912 slices_S32768x13824_o0_6912_S32768x6912 := by
  unfold k0_pay9 refH refG
  rfl

/-- An entry of the gated product. -/
theorem pay9_at (X : Vec Ideal S32768x2560 .bf16) (W : Vec Ideal S2560x13824 .fp8e4m3) (S : Vec Ideal S1x13824 .f32) (a : Fin 32768) (b : Fin 6912) :
    k0_pay9 (F := Ideal) (k0_pay5 X) (k0_pay6 X) W S (ix2 a b) = hrow (row (r := 32768) (k := 2560) X a) W S b := by
  rw [pay9_eq]
  exact refH_row (r := 32768) _ _ _ _ _ _ _ _ _ a b _ (fun k => pay7_at X (ix2 a k)) (pay8_at X a)

theorem pay9_row (X : Vec Ideal S32768x2560 .bf16) (W : Vec Ideal S2560x13824 .fp8e4m3) (S : Vec Ideal S1x13824 .f32) (a : Fin 32768) :
    row (r := 32768) (k := 6912) (k0_pay9 (F := Ideal) (k0_pay5 X) (k0_pay6 X) W S) a = hrow (row (r := 32768) (k := 2560) X a) W S :=
  funext fun b => pay9_at X W S a b

theorem pay10_eq (X : Vec Ideal S32768x2560 .bf16) (W : Vec Ideal S2560x13824 .fp8e4m3) (S : Vec Ideal S1x13824 .f32) :
    k0_pay10 (F := Ideal) (k0_pay5 X) (k0_pay6 X) W S
    = refE (r := 32768) (thr (r := 32768) (k := 6912) (k0_pay9 (F := Ideal) (k0_pay5 X) (k0_pay6 X) W S) reduces_S32768x6912_S32768 (.inl rfl) rfl shapeCasts_S32768_S32768x1)
        iota_S1x253_d1_w32 broadcasts_S1x253_S32768x253 broadcasts_S32768x1_S32768x253 shapeCasts_S1x253_S1x253 reduces_S32768x253_S32768
        (.inl rfl) rfl shapeCasts_S32768_S32768x1 := by
  unfold k0_pay10 refE thr
  rfl

/-- The exponent of a row of the gated product. -/
theorem pay10_at (X : Vec Ideal S32768x2560 .bf16) (W : Vec Ideal S2560x13824 .fp8e4m3) (S : Vec Ideal S1x13824 .f32) (i : S32768x1.Idx) :
    k0_pay10 (F := Ideal) (k0_pay5 X) (k0_pay6 X) W S i = RE (T (hrow (row (r := 32768) (k := 2560) X (i 0)) W S)) := by
  refine (congrFun (pay10_eq X W S) i).trans ((refE_at _ _ _ _ _ _ _ _ _ i).trans (congrArg RE ((thr_at _ _ _ _ _ i).trans ?_)))
  exact congrArg UpVec.T (pay9_row X W S _)

theorem pay1_eq (X : Vec Ideal S32768x2560 .bf16) (W : Vec Ideal S2560x13824 .fp8e4m3) (S : Vec Ideal S1x13824 .f32) :
    k0_pay1 (F := Ideal) (k0_pay9 (k0_pay5 X) (k0_pay6 X) W S) (k0_pay10 (k0_pay5 X) (k0_pay6 X) W S) (k0_pay11 (k0_pay5 X) (k0_pay6 X) W S)
    = refQ (r := 32768) (k := 6912) (k0_pay9 (F := Ideal) (k0_pay5 X) (k0_pay6 X) W S) (k0_pay10 (F := Ideal) (k0_pay5 X) (k0_pay6 X) W S)
        broadcasts_S32768x1_S32768x6912 bitsLt_fp8e4m3_f32 := by
  unfold k0_pay1 k0_pay11 refQ
  rfl

/-- The codes of the gated product. -/
theorem pay1_ix (X : Vec Ideal S32768x2560 .bf16) (W : Vec Ideal S2560x13824 .fp8e4m3) (S : Vec Ideal S1x13824 .f32) (a : Fin 32768) (b : Fin 6912) :
    k0_pay1 (F := Ideal) (k0_pay9 (k0_pay5 X) (k0_pay6 X) W S) (k0_pay10 (k0_pay5 X) (k0_pay6 X) W S) (k0_pay11 (k0_pay5 X) (k0_pay6 X) W S) (ix2 a b)
      = qc (hrow (row (r := 32768) (k := 2560) X a) W S) b := by
  refine (congrFun (pay1_eq X W S) _).trans ((refQ_at _ _ _ _ _ (UpVec.T (hrow (row (r := 32768) (k := 2560) X a) W S)) (pay10_at X W S (ix2 a 0))).trans ?_)
  exact congrArg (fun v => code v (UpVec.T (hrow (row (r := 32768) (k := 2560) X a) W S))) (pay9_at X W S a b)

theorem ix2_eq {r k : ℕ} (i : (M r k).Idx) : i = ix2 (i 0) (i 1) := by
  funext c
  match c with
  | ⟨0, _⟩ => rfl
  | ⟨1, _⟩ => rfl

theorem pay1_at (X : Vec Ideal S32768x2560 .bf16) (W : Vec Ideal S2560x13824 .fp8e4m3) (S : Vec Ideal S1x13824 .f32) :
    k0_pay1 (F := Ideal) (k0_pay9 (k0_pay5 X) (k0_pay6 X) W S) (k0_pay10 (k0_pay5 X) (k0_pay6 X) W S) (k0_pay11 (k0_pay5 X) (k0_pay6 X) W S)
      = HC X W S := by
  funext i
  exact (congrArg _ (ix2_eq i)).trans (pay1_ix X W S (i 0) (i 1))

/-- A column of the rows' numbers as blocks of two lines of lanes. -/
theorem lanes_at (v : S32768x1.Idx → EReal) (i : S128x2x128.Idx) :
    shapeCast S128x2x128 v shapeCasts_S32768x1_S128x2x128 i = v (ix2 (rowOf i) 0) := by
  refine shapeCast_apply _ _ i _ ?_
  rw [Shape.rowMajor_val_two, Shape.rowMajor_val_three]
  show ((i 0 : ℕ) * 256 + i 1 * 128 + i 2) * 1 + 0 = ((i 0 : ℕ) * 2 + i 1) * 128 + i 2
  omega

theorem pay2_at (X : Vec Ideal S32768x2560 .bf16) : k0_pay2 (F := Ideal) (k0_pay8 (k0_pay5 X)) = XS X := by
  funext i
  exact (lanes_at _ i).trans (pay8_at X _)

theorem pay3_at (X : Vec Ideal S32768x2560 .bf16) (W : Vec Ideal S2560x13824 .fp8e4m3) (S : Vec Ideal S1x13824 .f32) :
    k0_pay3 (F := Ideal) (k0_pay10 (k0_pay5 X) (k0_pay6 X) W S) = HS X W S := by
  funext i
  exact (lanes_at _ i).trans (exp2_at _ _ _ (pay10_at X W S (ix2 (rowOf i) 0)))

variable (m : (ℓ : Loc nD τ sig) → Buf (Elt Ideal) ℓ)

/-- The input as a matrix, and the column scales as a row. -/
def X (a : Vec Ideal S16x2048x2560 .bf16) : Vec Ideal S32768x2560 .bf16 := shapeCast S32768x2560 a shapeCasts_S16x2048x2560_S32768x2560
def S (a : Vec Ideal S13824 .f32) : Vec Ideal S1x13824 .f32 := shapeCast S1x13824 a shapeCasts_S13824_S1x13824

theorem idx : ∀ t : Fin cfg0.N, win0_0.index t = ![0, 0] ∧ win0_1.index t = ![0, 0] ∧ win0_2.index t = ![0, 0]
    ∧ win0_3.index t = ![0, 0] ∧ win0_4.index t = ![0, 0, 0] ∧ win0_5.index t = ![0, 0] ∧ win0_6.index t = ![0, 0, 0] :=
  (by decide +kernel : ∀ t : Fin grid0.N, _)

theorem iblk0 (c : Dev nD) (t : Fin cfg0.N) : iblk m c 0 t = X (m ((c : Thread nD τ).loc main_arg0)) := by
  funext y
  blk_simp [iblk, idx t]
  entry_read
  blk_ext [idx t]
theorem iblk1 (c : Dev nD) (t : Fin cfg0.N) : iblk m c 1 t = m ((c : Thread nD τ).loc main_arg1) := by
  blk_ext! [iblk, V, idx t]
theorem iblk2 (c : Dev nD) (t : Fin cfg0.N) : iblk m c 2 t = S (m ((c : Thread nD τ).loc main_arg2)) := by
  funext y
  blk_simp [iblk, idx t]
  entry_read
  blk_ext [idx t]

theorem z2 : (![0, 0] : Fin 2 → ℕ) = fun _ => 0 := by
  funext a
  match a with
  | ⟨0, _⟩ => rfl
  | ⟨1, _⟩ => rfl
theorem z3 : (![0, 0, 0] : Fin 3 → ℕ) = fun _ => 0 := by
  funext a
  match a with
  | ⟨0, _⟩ => rfl
  | ⟨1, _⟩ => rfl
  | ⟨2, _⟩ => rfl

theorem pay12_eq (x0 : Vec Ideal S32768x2560 .bf16) (x1) (x2) : k0_pay12 (F := Ideal) x0 x1 x2 = k0_pay5 x0 :=
  congrArg k0_pay5 (View.ld_unit_zero z2 _ x0)
theorem pay13_eq (x0 : Vec Ideal S32768x2560 .bf16) (x1) (x2) : k0_pay13 (F := Ideal) x0 x1 x2 = k0_pay6 x0 :=
  congrArg k0_pay6 (View.ld_unit_zero z2 _ x0)
theorem ld1 (x1 : Vec Ideal S2560x13824 .fp8e4m3) : View.ld (Val := Elt Ideal) (e' := .fp8e4m3) x1 r0_1 = x1 := View.ld_unit_zero z2 _ x1
theorem ld2 (x2 : Vec Ideal S1x13824 .f32) : View.ld (Val := Elt Ideal) (e' := .f32) x2 r0_2 = x2 := View.ld_unit_zero z2 _ x2
theorem pay14_eq (x0 : Vec Ideal S32768x2560 .bf16) (x1) (x2) :
    k0_pay14 (F := Ideal) x0 x1 x2 = k0_pay10 (k0_pay5 x0) (k0_pay6 x0) x1 x2 := by
  unfold k0_pay14
  rw [pay12_eq, pay13_eq, ld1, ld2]

/-- What the body leaves in each result. -/
theorem out3_eq (x0 : Vec Ideal S32768x2560 .bf16) (x1) (x2) : out0_3 (F := Ideal) x0 x1 x2 = XC x0 := by
  unfold out0_3
  rw [pay13_eq]
  exact (View.canon_unit_zero z2 _ _).trans (funext fun i => pay7_at x0 i)
theorem out4_eq (x0 : Vec Ideal S32768x2560 .bf16) (x1) (x2) : out0_4 (F := Ideal) x0 x1 x2 = XS x0 := by
  unfold out0_4
  rw [pay12_eq]
  exact (View.canon_unit_zero z3 _ _).trans (pay2_at x0)
theorem out5_eq (x0 : Vec Ideal S32768x2560 .bf16) (x1) (x2) : out0_5 (F := Ideal) x0 x1 x2 = HC x0 x1 x2 := by
  unfold out0_5
  rw [pay12_eq, pay13_eq, pay14_eq, ld1, ld2]
  exact (View.canon_unit_zero z2 _ _).trans (pay1_at x0 x1 x2)
theorem out6_eq (x0 : Vec Ideal S32768x2560 .bf16) (x1) (x2) : out0_6 (F := Ideal) x0 x1 x2 = HS x0 x1 x2 := by
  unfold out0_6
  rw [pay14_eq]
  exact (View.canon_unit_zero z3 _ _).trans (pay3_at x0 x1 x2)

/-- The result arrays after the run. -/
theorem final3 (c : Dev nD) : (dats m 0 c).arrAt 3 (cfgs 0).N = XC (X (m ((c : Thread nD τ).loc main_arg0))) := by
  refine (dats m 0 c).arrAt_eq_of_after_last 3 t0_0 (by decide +kernel) _ fun j => ?_
  blk_simp
  rw [after0_3, out3_eq, iblk0]
theorem final4 (c : Dev nD) : (dats m 0 c).arrAt 4 (cfgs 0).N = XS (X (m ((c : Thread nD τ).loc main_arg0))) := by
  refine (dats m 0 c).arrAt_eq_of_after_last 4 t0_0 (by decide +kernel) _ fun j => ?_
  blk_simp
  rw [after0_4, out4_eq, iblk0]
theorem final5 (c : Dev nD) : (dats m 0 c).arrAt 5 (cfgs 0).N = HC (X (m ((c : Thread nD τ).loc main_arg0))) (m ((c : Thread nD τ).loc main_arg1)) (S (m ((c : Thread nD τ).loc main_arg2))) := by
  refine (dats m 0 c).arrAt_eq_of_after_last 5 t0_0 (by decide +kernel) _ fun j => ?_
  blk_simp
  rw [after0_5, out5_eq, iblk0, iblk1, iblk2]
theorem final6 (c : Dev nD) : (dats m 0 c).arrAt 6 (cfgs 0).N = HS (X (m ((c : Thread nD τ).loc main_arg0))) (m ((c : Thread nD τ).loc main_arg1)) (S (m ((c : Thread nD τ).loc main_arg2))) := by
  refine (dats m 0 c).arrAt_eq_of_after_last 6 t0_0 (by decide +kernel) _ fun j => ?_
  blk_simp
  rw [after0_6, out6_eq, iblk0, iblk1, iblk2]

end Cert.Proof.RefUp

end
-- ==== Proof.UpFin.lean ====
/-
  Hand-written, untrusted. What the gate/up kernel computes: put together, the blocks its steps write are the codes and scales of the
  rows of the input and of the gated product (`final3` … `final6`), the terms the reference ends with too.
-/
module

public import proofs.«01_k».proof.Proof.UpDat
public import proofs.«01_k».proof.Proof.UpRef

@[expose] public section

set_option maxRecDepth 16384

noncomputable section

namespace Cert.Proof.UpFin

open Cert.UpIdeal Cert.UpIdeal.Gen
open Idealize.ShloMosaic Idealize.ShloMosaic.TcCoe Idealize.SL.Sem
open Idealize.ShloMosaic.Pipeline (Dat)
open Cert.Proof.UpVec Cert.Proof.UpExp Cert.Proof.UpBlk Cert.Proof.UpTile Cert.Proof.UpDat

variable (m : (ℓ : Loc nD τ sig) → Buf (Elt Ideal) ℓ)

/-- The input as a matrix and the scales as a row. -/
def X (a : Vec Ideal S16x2048x2560 .bf16) : Vec Ideal S32768x2560 .bf16 := shapeCast S32768x2560 a shapeCasts_S16x2048x2560_S32768x2560
def S (a : Vec Ideal S13824 .f32) : Vec Ideal S1x13824 .f32 := shapeCast S1x13824 a shapeCasts_S13824_S1x13824

theorem idx : ∀ t : Fin cfg0.N, win0_0.index t = ![min t.val 127, 0] ∧ win0_1.index t = ![0, 0] ∧ win0_2.index t = ![0, 0]
    ∧ win0_3.index t = ![min t.val 127, 0] ∧ win0_4.index t = ![min t.val 127, 0, 0] ∧ win0_5.index t = ![t.val - 2, 0]
    ∧ win0_6.index t = ![t.val - 2, 0, 0] :=
  (by decide +kernel : ∀ t : Fin grid0.N, _)

theorem fl5 : ∀ t : Fin cfg0.N, (cfg0.win 5).flush t = true → 2 ≤ t.val :=
  (by decide +kernel : ∀ t : Fin grid0.N, win0_5.flush t = true → 2 ≤ t.val)
theorem fl6 : ∀ t : Fin cfg0.N, (cfg0.win 6).flush t = true → 2 ≤ t.val :=
  (by decide +kernel : ∀ t : Fin grid0.N, win0_6.flush t = true → 2 ≤ t.val)

theorem iblk0_at (c : Dev nD) (t : Fin cfg0.N) (r : Fin 256) (k : Fin 2560) (j : S32768x2560.Idx)
    (h0 : (j 0 : ℕ) = 256 * min t.val 127 + r) (h1 : (j 1 : ℕ) = k) :
    B0 m c t (ix2 r k) = X (m ((c : Thread nD τ).loc main_arg0)) j := by
  blk_simp [B0, iblk, idx t]
  entry_read
  blk_ext [idx t]
theorem iblk1 (c : Dev nD) (t : Fin cfg0.N) : B1 m c t = m ((c : Thread nD τ).loc main_arg1) := by
  blk_ext! [B1, iblk, V, idx t]
theorem iblk2 (c : Dev nD) (t : Fin cfg0.N) : B2 m c t = S (m ((c : Thread nD τ).loc main_arg2)) := by
  funext y
  blk_simp [B2, iblk, idx t]
  entry_read
  blk_ext [idx t]

/-- A row of the input block is a row of the input. -/
theorem row0 (c : Dev nD) (t : Fin cfg0.N) (r : Fin 256) (i : Fin 32768) (h : (i : ℕ) = 256 * min t.val 127 + r) :
    row (B0 m c t) r = row (X (m ((c : Thread nD τ).loc main_arg0))) i :=
  funext fun k => iblk0_at m c t r k (ix2 i k) h rfl

/-- A row of the gated product of step `n + 1` is that of the input's row. -/
theorem rowH (c : Dev nD) (n : ℕ) (hn : n < cfg0.N) (h1 : 1 ≤ n) (h2 : n ≤ 128) (r : Fin 256) (i : Fin 32768)
    (h : (i : ℕ) = 256 * (n - 1) + r) :
    row (Hn m c n hn) r = hrow (row (X (m ((c : Thread nD τ).loc main_arg0))) i) (m ((c : Thread nD τ).loc main_arg1)) (S (m ((c : Thread nD τ).loc main_arg2))) := by
  cases n with
  | zero => exact absurd h1 (by omega)
  | succ n =>
    have e0 := row0 m c ⟨n, Nat.lt_of_succ_lt hn⟩ r i (by show (i : ℕ) = 256 * min n 127 + r; rw [Nat.min_eq_left (by omega)]; exact h)
    rw [← e0, ← iblk1 m c ⟨n + 1, hn⟩, ← iblk2 m c ⟨n + 1, hn⟩]
    rfl

theorem final3 (c : Dev nD) : (dats m 0 c).arrAt 3 (cfgs 0).N = XC (X (m ((c : Thread nD τ).loc main_arg0))) := by
  refine (dats m 0 c).arrAt_eq_of_covers 3 _ (by decide +kernel) fun t _ y => ?_
  blk_simp
  rw [after0_3]
  have e0 : ((((cfg0.win 3).blk t).view.emb y) 0 : ℕ) = 256 * min t.val 127 + y 0 := by blk_simp [idx t] <;> omega
  have e1 : ((((cfg0.win 3).blk t).view.emb y) 1 : ℕ) = y 1 := by blk_simp [idx t] <;> omega
  generalize ((cfg0.win 3).blk t).view.emb y = j at e0 e1
  show qc (row (B0 m c t) (y 0)) (y 1) = qc (row (X _) (j 0)) (j 1)
  rw [row0 m c t (y 0) (j 0) e0]
  exact congrArg (qc _) (Fin.ext e1.symm)

theorem final4 (c : Dev nD) : (dats m 0 c).arrAt 4 (cfgs 0).N = XS (X (m ((c : Thread nD τ).loc main_arg0))) := by
  refine (dats m 0 c).arrAt_eq_of_covers 4 _ (by decide +kernel) fun t _ y => ?_
  blk_simp
  rw [after0_4]
  have e0 : ((((cfg0.win 4).blk t).view.emb y) 0 : ℕ) = min t.val 127 := by blk_simp [idx t] <;> omega
  have e1 : ((((cfg0.win 4).blk t).view.emb y) 1 : ℕ) = y 1 := by blk_simp [idx t] <;> omega
  have e2 : ((((cfg0.win 4).blk t).view.emb y) 2 : ℕ) = y 2 := by blk_simp [idx t] <;> omega
  generalize ((cfg0.win 4).blk t).view.emb y = j at e0 e1 e2
  show qs (row (B0 m c t) (lrow y)) = qs (row (X _) (rowOf j))
  rw [row0 m c t (lrow y) (rowOf j) (by show (j 0 : ℕ) * 256 + j 1 * 128 + j 2 = 256 * min t.val 127 + ((y 1 : ℕ) * 128 + y 2); omega)]

theorem final5 (c : Dev nD) : (dats m 0 c).arrAt 5 (cfgs 0).N
    = HC (X (m ((c : Thread nD τ).loc main_arg0))) (m ((c : Thread nD τ).loc main_arg1)) (S (m ((c : Thread nD τ).loc main_arg2))) := by
  refine (dats m 0 c).arrAt_eq_of_covers 5 _ (by decide +kernel) fun t hf y => ?_
  have h2 := fl5 t hf
  have hN : t.val < 130 := lt_of_lt_of_eq t.isLt (show cfg0.N = 130 from N_0)
  blk_simp
  rw [after0_5]
  have e0 : ((((cfg0.win 5).blk t).view.emb y) 0 : ℕ) = 256 * (t.val - 2) + y 0 := by blk_simp [idx t] <;> omega
  have e1 : ((((cfg0.win 5).blk t).view.emb y) 1 : ℕ) = y 1 := by blk_simp [idx t] <;> omega
  generalize ((cfg0.win 5).blk t).view.emb y = j at e0 e1
  show qc (row (Hn m c (t.val - 1) (prev t)) (y 0)) (y 1) = qc (hrow (row (X _) (j 0)) _ _) (j 1)
  rw [rowH m c (t.val - 1) (prev t) (by omega) (by omega) (y 0) (j 0) (by omega)]
  exact congrArg (qc _) (Fin.ext e1.symm)

theorem final6 (c : Dev nD) : (dats m 0 c).arrAt 6 (cfgs 0).N
    = HS (X (m ((c : Thread nD τ).loc main_arg0))) (m ((c : Thread nD τ).loc main_arg1)) (S (m ((c : Thread nD τ).loc main_arg2))) := by
  refine (dats m 0 c).arrAt_eq_of_covers 6 _ (by decide +kernel) fun t hf y => ?_
  have h2 := fl6 t hf
  have hN : t.val < 130 := lt_of_lt_of_eq t.isLt (show cfg0.N = 130 from N_0)
  blk_simp
  rw [after0_6]
  have e0 : ((((cfg0.win 6).blk t).view.emb y) 0 : ℕ) = t.val - 2 := by blk_simp [idx t] <;> omega
  have e1 : ((((cfg0.win 6).blk t).view.emb y) 1 : ℕ) = y 1 := by blk_simp [idx t] <;> omega
  have e2 : ((((cfg0.win 6).blk t).view.emb y) 2 : ℕ) = y 2 := by blk_simp [idx t] <;> omega
  generalize ((cfg0.win 6).blk t).view.emb y = j at e0 e1 e2
  show qs (row (Hn m c (t.val - 1) (prev t)) (lrow y)) = qs (hrow (row (X _) (rowOf j)) _ _)
  rw [rowH m c (t.val - 1) (prev t) (by omega) (by omega) (lrow y) (rowOf j)
    (by show (j 0 : ℕ) * 256 + j 1 * 128 + j 2 = 256 * (t.val - 1 - 1) + ((y 1 : ℕ) * 128 + y 2); omega)]

end Cert.Proof.UpFin

end
-- ==== Proof.UpAlg.lean ====
/-
  Hand-written, untrusted. The algebraic claim of the gate/up call: from equal arguments the kernel and the reference both run and end
  with the same four arrays, the codes and scales of the input's rows and of the gated product's rows.
-/
module

public import proofs.«01_k».proof.Defs
public import proofs.«01_k».proof.Proof.UpFin
public import proofs.«01_k».proof.Proof.UpRef
public import Idealize.ShloMosaic.Lib.Claim

@[expose] public section

set_option maxRecDepth 16384

noncomputable section

namespace Cert.Proof

open Idealize.ShloMosaic Idealize.ShloMosaic.TcCoe Idealize.SL.Sem

/-- `Cert.algebraic_UpIdeal_RefUpIdeal`: both run, and from equal arguments the results are equal. -/
theorem algebraic_Up : Cert.algebraic_UpIdeal_RefUpIdeal (hUpIdeal := Cert.UpIdeal.Gen.facts)
    (hRefUpIdeal := Cert.RefUpIdeal.Gen.facts) := by
  pair_intro
  · run_from UpDat.run_main m g
  · run_from Cert.RefUpIdeal.Gen.run_main m' g'
    · rw [RefUp.final3, (hagree c).1]
      exact (UpFin.final3 m c).symm
    · rw [RefUp.final4, (hagree c).1]
      exact (UpFin.final4 m c).symm
    · rw [RefUp.final5, (hagree c).1, (hagree c).2.1, (hagree c).2.2]
      exact (UpFin.final5 m c).symm
    · rw [RefUp.final6, (hagree c).1, (hagree c).2.1, (hagree c).2.2]
      exact (UpFin.final6 m c).symm

end Cert.Proof

end
-- ==== Proof.lean ====
module

public import proofs.«01_k».proof.Defs
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.RefUpIdeal
public import proofs.«01_k».proof.Proof.Gen.RefUpIdeal.Skeleton
public import proofs.«01_k».proof.Proof.Gen.RefUpIdeal.Launch
public import proofs.«01_k».proof.Proof.Gen.RefUpIdeal.Points
public import proofs.«01_k».proof.Proof.Gen.RefUpIdeal.Frame
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.RefDownIdeal
public import proofs.«01_k».proof.Proof.Gen.RefDownIdeal.Skeleton
public import proofs.«01_k».proof.Proof.Gen.RefDownIdeal.Launch
public import proofs.«01_k».proof.Proof.Gen.RefDownIdeal.Points
public import proofs.«01_k».proof.Proof.Gen.RefDownIdeal.Frame
public import proofs.«01_k».proof.Proof.DownAlg
public import proofs.«01_k».proof.Proof.UpFrame
public import proofs.«01_k».proof.Proof.UpIdealFrame
public import proofs.«01_k».proof.Proof.UpAlg
public import Idealize.ShloMosaic.Adequacy
public import Idealize.ShloMosaic.Init
public import proofs.«01_k».proof.Proof.Gen.DownIdeal.Value
public import proofs.«01_k».proof.Proof.Gen.RefDownIdeal.Value
public import proofs.«01_k».proof.Proof.Gen.RefUpIdeal.Value

@[expose] public section

noncomputable section

namespace Cert.Proof

open Idealize.ShloMosaic Idealize.SL.Sem Cert.Up

theorem claim : Cert.Claim :=
  ⟨Cert.Up.Gen.facts, Cert.UpIdeal.Gen.facts, Cert.RefUpIdeal.Gen.facts, Cert.Down.Gen.facts, Cert.DownIdeal.Gen.facts,
    Cert.RefDownIdeal.Gen.facts, fun m ρ _ => Cert.Proof.UpFrame.frame m ρ, fun m ρ _ => Cert.Proof.UpIdealFrame.frame m ρ,
    fun m ρ _ => Cert.RefUpIdeal.Gen.frame m ρ, fun m ρ _ => Cert.Down.Gen.frame m ρ,
    fun m ρ _ => Cert.DownIdeal.Gen.frame m ρ, fun m ρ _ => Cert.RefDownIdeal.Gen.frame m ρ, trivial, algebraic_Up, trivial, algebraic_Down⟩

end Cert.Proof

end
